-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2560x2048 : Shape := ⟨3, ![8, 2560, 2048]⟩
abbrev S8x2560x16 : Shape := ⟨3, ![8, 2560, 16]⟩
abbrev S8x2048 : Shape := ⟨2, ![8, 2048]⟩
abbrev S8x1x2048 : Shape := ⟨3, ![8, 1, 2048]⟩
abbrev S8x3x2048 : Shape := ⟨3, ![8, 3, 2048]⟩
abbrev S8x20x3x2048 : Shape := ⟨4, ![8, 20, 3, 2048]⟩
abbrev S1x512x2048 : Shape := ⟨3, ![1, 512, 2048]⟩
abbrev S1x512x16 : Shape := ⟨3, ![1, 512, 16]⟩
abbrev S1x1x2048 : Shape := ⟨3, ![1, 1, 2048]⟩
abbrev S1x3x2048 : Shape := ⟨3, ![1, 3, 2048]⟩
abbrev S1x4x3x2048 : Shape := ⟨4, ![1, 4, 3, 2048]⟩
abbrev S3x8x2048 : Shape := ⟨3, ![3, 8, 2048]⟩
abbrev S1x32x16 : Shape := ⟨3, ![1, 32, 16]⟩
abbrev S32x16 : Shape := ⟨2, ![32, 16]⟩
abbrev S32x128 : Shape := ⟨2, ![32, 128]⟩
abbrev S1x32x128 : Shape := ⟨3, ![1, 32, 128]⟩
abbrev S32x1 : Shape := ⟨2, ![32, 1]⟩
abbrev S32 : Shape := ⟨1, ![32]⟩
abbrev S4x8x128 : Shape := ⟨3, ![4, 8, 128]⟩
abbrev S8x128 : Shape := ⟨2, ![8, 128]⟩
abbrev S1x1x128 : Shape := ⟨3, ![1, 1, 128]⟩
abbrev S1x128 : Shape := ⟨2, ![1, 128]⟩
abbrev S1x8x128 : Shape := ⟨3, ![1, 8, 128]⟩
abbrev S1x8x2048 : Shape := ⟨3, ![1, 8, 2048]⟩
abbrev S2048 : Shape := ⟨1, ![2048]⟩
abbrev S1x2048 : Shape := ⟨2, ![1, 2048]⟩
abbrev S1x1x1x2048 : Shape := ⟨4, ![1, 1, 1, 2048]⟩

abbrev nBuf : Space → Nat
  | .hbm => 12
  | .vmem => 26
  | .smem => 0
  | _ => 0

abbrev bufTy : (tb : Table) → Fin (tcTables nBuf tb) → BufTy
  | .hbm, ⟨0, _⟩ => ⟨S8x2560x2048, .fp8e4m3⟩
  | .hbm, ⟨1, _⟩ => ⟨S8x2560x16, .f32⟩
  | .hbm, ⟨2, _⟩ => ⟨S8x2560x2048, .bf16⟩
  | .hbm, ⟨3, _⟩ => ⟨S8x2560x2048, .fp8e5m2⟩
  | .hbm, ⟨4, _⟩ => ⟨S8x2560x16, .f32⟩
  | .hbm, ⟨5, _⟩ => ⟨S8x2560x2048, .fp8e5m2⟩
  | .hbm, ⟨6, _⟩ => ⟨S8x2560x16, .f32⟩
  | .hbm, ⟨7, _⟩ => ⟨S8x2048, .f32⟩
  | .hbm, ⟨8, _⟩ => ⟨S8x1x2048, .f32⟩
  | .hbm, ⟨9, _⟩ => ⟨S8x2560x2048, .bf16⟩
  | .hbm, ⟨10, _⟩ => ⟨S8x3x2048, .f32⟩
  | .hbm, ⟨11, _⟩ => ⟨S8x20x3x2048, .f32⟩
  | .local _ .vmem, ⟨0, _⟩ => ⟨S1x512x2048, .fp8e4m3⟩
  | .local _ .vmem, ⟨1, _⟩ => ⟨S1x512x2048, .fp8e4m3⟩
  | .local _ .vmem, ⟨2, _⟩ => ⟨S1x512x16, .f32⟩
  | .local _ .vmem, ⟨3, _⟩ => ⟨S1x512x16, .f32⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .fp8e5m2⟩
  | .local _ .vmem, ⟨7, _⟩ => ⟨S1x512x2048, .fp8e5m2⟩
  | .local _ .vmem, ⟨8, _⟩ => ⟨S1x512x16, .f32⟩
  | .local _ .vmem, ⟨9, _⟩ => ⟨S1x512x16, .f32⟩
  | .local _ .vmem, ⟨10, _⟩ => ⟨S1x512x2048, .fp8e5m2⟩
  | .local _ .vmem, ⟨11, _⟩ => ⟨S1x512x2048, .fp8e5m2⟩
  | .local _ .vmem, ⟨12, _⟩ => ⟨S1x512x16, .f32⟩
  | .local _ .vmem, ⟨13, _⟩ => ⟨S1x512x16, .f32⟩
  | .local _ .vmem, ⟨14, _⟩ => ⟨S1x1x2048, .f32⟩
  | .local _ .vmem, ⟨15, _⟩ => ⟨S1x1x2048, .f32⟩
  | .local _ .vmem, ⟨16, _⟩ => ⟨S1x512x2048, .bf16⟩
  | .local _ .vmem, ⟨17, _⟩ => ⟨S1x512x2048, .bf16⟩
  | .local _ .vmem, ⟨18, _⟩ => ⟨S1x3x2048, .f32⟩
  | .local _ .vmem, ⟨19, _⟩ => ⟨S1x3x2048, .f32⟩
  | .local _ .vmem, ⟨20, _⟩ => ⟨S1x4x3x2048, .f32⟩
  | .local _ .vmem, ⟨21, _⟩ => ⟨S1x4x3x2048, .f32⟩
  | .local _ .vmem, ⟨22, _⟩ => ⟨S3x8x2048, .f32⟩
  | .local _ .vmem, ⟨23, _⟩ => ⟨S3x8x2048, .f32⟩
  | .local _ .vmem, ⟨24, _⟩ => ⟨S3x8x2048, .f32⟩
  | .local _ .vmem, ⟨25, _⟩ => ⟨S3x8x2048, .f32⟩
  | _, _ => ⟨S8x2560x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scoped0 : Ref sig .tc := ⟨.vmem, 22, rfl⟩
abbrev cc0_scoped1 : Ref sig .tc := ⟨.vmem, 23, rfl⟩
abbrev cc0_scoped2 : Ref sig .tc := ⟨.vmem, 24, rfl⟩
abbrev cc0_scoped3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 5], ![false, false]⟩

@[reducible] def k0_t1_loop : Scf.Loop 32 :=
  let c0_i32_4_r0 : BitVec 32 := 0#32
  let c4_i32_r0 : BitVec 32 := 4#32
  let v7_r0 : BitVec 32 := Scalar.addi c0_i32_4_r0 c4_i32_r0
  let c1_i32_r0 : BitVec 32 := 1#32
  ⟨c0_i32_4_r0, v7_r0, c1_i32_r0⟩
def k0_mult1 (k0_t1 : Fin k0_t1_loop.trips) : BitVec 32 :=
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  v48_r0
def k0_off1 (k0_t1 : Fin k0_t1_loop.trips) : Fin 3 → Nat :=
  let c0_47_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v50_r0 : Index := Scalar.indexCast v49_r0
  let c0_48_r0 : Index := 0#32
  ![0, v50_r0.toNat, 0]
def k0_off2 (k0_t1 : Fin k0_t1_loop.trips) : Fin 3 → Nat :=
  let c0_54_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v60_r0 : Index := Scalar.indexCast v49_r0
  let c0_55_r0 : Index := 0#32
  ![0, v60_r0.toNat, 0]
def k0_off3 (k0_t1 : Fin k0_t1_loop.trips) : Fin 3 → Nat :=
  let c0_56_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v68_r0 : Index := Scalar.indexCast v49_r0
  let c128_r0 : Index := 128#32
  ![0, v68_r0.toNat, 128]
def k0_off4 (k0_t1 : Fin k0_t1_loop.trips) : Fin 3 → Nat :=
  let c0_57_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v76_r0 : Index := Scalar.indexCast v49_r0
  let c256_r0 : Index := 256#32
  ![0, v76_r0.toNat, 256]
def k0_off5 (k0_t1 : Fin k0_t1_loop.trips) : Fin 3 → Nat :=
  let c0_58_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v84_r0 : Index := Scalar.indexCast v49_r0
  let c384_r0 : Index := 384#32
  ![0, v84_r0.toNat, 384]
def k0_off6 (k0_t1 : Fin k0_t1_loop.trips) : Fin 3 → Nat :=
  let c0_59_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v92_r0 : Index := Scalar.indexCast v49_r0
  let c512_r0 : Index := 512#32
  ![0, v92_r0.toNat, 512]
def k0_off7 (k0_t1 : Fin k0_t1_loop.trips) : Fin 3 → Nat :=
  let c0_60_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v100_r0 : Index := Scalar.indexCast v49_r0
  let c640_r0 : Index := 640#32
  ![0, v100_r0.toNat, 640]
def k0_off8 (k0_t1 : Fin k0_t1_loop.trips) : Fin 3 → Nat :=
  let c0_61_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v108_r0 : Index := Scalar.indexCast v49_r0
  let c768_r0 : Index := 768#32
  ![0, v108_r0.toNat, 768]
def k0_off9 (k0_t1 : Fin k0_t1_loop.trips) : Fin 3 → Nat :=
  let c0_62_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v116_r0 : Index := Scalar.indexCast v49_r0
  let c896_r0 : Index := 896#32
  ![0, v116_r0.toNat, 896]
def k0_off10 (k0_t1 : Fin k0_t1_loop.trips) : Fin 3 → Nat :=
  let c0_63_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v124_r0 : Index := Scalar.indexCast v49_r0
  let c1024_r0 : Index := 1024#32
  ![0, v124_r0.toNat, 1024]
def k0_off11 (k0_t1 : Fin k0_t1_loop.trips) : Fin 3 → Nat :=
  let c0_64_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v132_r0 : Index := Scalar.indexCast v49_r0
  let c1152_r0 : Index := 1152#32
  ![0, v132_r0.toNat, 1152]
def k0_off12 (k0_t1 : Fin k0_t1_loop.trips) : Fin 3 → Nat :=
  let c0_65_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v140_r0 : Index := Scalar.indexCast v49_r0
  let c1280_r0 : Index := 1280#32
  ![0, v140_r0.toNat, 1280]
def k0_off13 (k0_t1 : Fin k0_t1_loop.trips) : Fin 3 → Nat :=
  let c0_66_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v148_r0 : Index := Scalar.indexCast v49_r0
  let c1408_r0 : Index := 1408#32
  ![0, v148_r0.toNat, 1408]
def k0_off14 (k0_t1 : Fin k0_t1_loop.trips) : Fin 3 → Nat :=
  let c0_67_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v156_r0 : Index := Scalar.indexCast v49_r0
  let c1536_r0 : Index := 1536#32
  ![0, v156_r0.toNat, 1536]
def k0_off15 (k0_t1 : Fin k0_t1_loop.trips) : Fin 3 → Nat :=
  let c0_68_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v164_r0 : Index := Scalar.indexCast v49_r0
  let c1664_r0 : Index := 1664#32
  ![0, v164_r0.toNat, 1664]
def k0_off16 (k0_t1 : Fin k0_t1_loop.trips) : Fin 3 → Nat :=
  let c0_69_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v172_r0 : Index := Scalar.indexCast v49_r0
  let c1792_r0 : Index := 1792#32
  ![0, v172_r0.toNat, 1792]
def k0_off17 (k0_t1 : Fin k0_t1_loop.trips) : Fin 3 → Nat :=
  let c0_70_r0 : Index := 0#32
  let c0_i32_46_r0 : BitVec 32 := 0#32
  let c0_i32_4_r0 : BitVec 32 := 0#32
  let c1_i32_r0 : BitVec 32 := 1#32
  let arg13_r0 : BitVec 32 := Scf.iv c0_i32_4_r0 c1_i32_r0 k0_t1
  let c32_i32_r0 : BitVec 32 := 32#32
  let v47_r0 : BitVec 32 := Scalar.muli arg13_r0 c32_i32_r0
  let v48_r0 : BitVec 32 := Scalar.addi c0_i32_46_r0 v47_r0
  let v49_r0 : BitVec 32 := v48_r0
  let v180_r0 : Index := Scalar.indexCast v49_r0
  let c1920_r0 : Index := 1920#32
  ![0, v180_r0.toNat, 1920]
@[reducible] def k0_t2_loop : Scf.Loop 32 :=
  let c0_i32_4_r1 : BitVec 32 := 0#32
  let c4_i32_r1 : BitVec 32 := 4#32
  let v7_r1 : BitVec 32 := Scalar.addi c0_i32_4_r1 c4_i32_r1
  let c1_i32_r1 : BitVec 32 := 1#32
  ⟨c0_i32_4_r1, v7_r1, c1_i32_r1⟩
def k0_mult2 (k0_t2 : Fin k0_t2_loop.trips) : BitVec 32 :=
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  v48_r1
def k0_off18 (k0_t2 : Fin k0_t2_loop.trips) : Fin 3 → Nat :=
  let c0_46_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v50_r1 : Index := Scalar.indexCast v49_r1
  let c0_47_r1 : Index := 0#32
  ![0, v50_r1.toNat, 0]
def k0_off19 (k0_t2 : Fin k0_t2_loop.trips) : Fin 3 → Nat :=
  let c0_53_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v60_r1 : Index := Scalar.indexCast v49_r1
  let c0_54_r1 : Index := 0#32
  ![0, v60_r1.toNat, 0]
def k0_off20 (k0_t2 : Fin k0_t2_loop.trips) : Fin 3 → Nat :=
  let c0_55_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v68_r1 : Index := Scalar.indexCast v49_r1
  let c128_r1 : Index := 128#32
  ![0, v68_r1.toNat, 128]
def k0_off21 (k0_t2 : Fin k0_t2_loop.trips) : Fin 3 → Nat :=
  let c0_56_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v76_r1 : Index := Scalar.indexCast v49_r1
  let c256_r1 : Index := 256#32
  ![0, v76_r1.toNat, 256]
def k0_off22 (k0_t2 : Fin k0_t2_loop.trips) : Fin 3 → Nat :=
  let c0_57_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v84_r1 : Index := Scalar.indexCast v49_r1
  let c384_r1 : Index := 384#32
  ![0, v84_r1.toNat, 384]
def k0_off23 (k0_t2 : Fin k0_t2_loop.trips) : Fin 3 → Nat :=
  let c0_58_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v92_r1 : Index := Scalar.indexCast v49_r1
  let c512_r1 : Index := 512#32
  ![0, v92_r1.toNat, 512]
def k0_off24 (k0_t2 : Fin k0_t2_loop.trips) : Fin 3 → Nat :=
  let c0_59_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v100_r1 : Index := Scalar.indexCast v49_r1
  let c640_r1 : Index := 640#32
  ![0, v100_r1.toNat, 640]
def k0_off25 (k0_t2 : Fin k0_t2_loop.trips) : Fin 3 → Nat :=
  let c0_60_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v108_r1 : Index := Scalar.indexCast v49_r1
  let c768_r1 : Index := 768#32
  ![0, v108_r1.toNat, 768]
def k0_off26 (k0_t2 : Fin k0_t2_loop.trips) : Fin 3 → Nat :=
  let c0_61_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v116_r1 : Index := Scalar.indexCast v49_r1
  let c896_r1 : Index := 896#32
  ![0, v116_r1.toNat, 896]
def k0_off27 (k0_t2 : Fin k0_t2_loop.trips) : Fin 3 → Nat :=
  let c0_62_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v124_r1 : Index := Scalar.indexCast v49_r1
  let c1024_r1 : Index := 1024#32
  ![0, v124_r1.toNat, 1024]
def k0_off28 (k0_t2 : Fin k0_t2_loop.trips) : Fin 3 → Nat :=
  let c0_63_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v132_r1 : Index := Scalar.indexCast v49_r1
  let c1152_r1 : Index := 1152#32
  ![0, v132_r1.toNat, 1152]
def k0_off29 (k0_t2 : Fin k0_t2_loop.trips) : Fin 3 → Nat :=
  let c0_64_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v140_r1 : Index := Scalar.indexCast v49_r1
  let c1280_r1 : Index := 1280#32
  ![0, v140_r1.toNat, 1280]
def k0_off30 (k0_t2 : Fin k0_t2_loop.trips) : Fin 3 → Nat :=
  let c0_65_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v148_r1 : Index := Scalar.indexCast v49_r1
  let c1408_r1 : Index := 1408#32
  ![0, v148_r1.toNat, 1408]
def k0_off31 (k0_t2 : Fin k0_t2_loop.trips) : Fin 3 → Nat :=
  let c0_66_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v156_r1 : Index := Scalar.indexCast v49_r1
  let c1536_r1 : Index := 1536#32
  ![0, v156_r1.toNat, 1536]
def k0_off32 (k0_t2 : Fin k0_t2_loop.trips) : Fin 3 → Nat :=
  let c0_67_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v164_r1 : Index := Scalar.indexCast v49_r1
  let c1664_r1 : Index := 1664#32
  ![0, v164_r1.toNat, 1664]
def k0_off33 (k0_t2 : Fin k0_t2_loop.trips) : Fin 3 → Nat :=
  let c0_68_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v172_r1 : Index := Scalar.indexCast v49_r1
  let c1792_r1 : Index := 1792#32
  ![0, v172_r1.toNat, 1792]
def k0_off34 (k0_t2 : Fin k0_t2_loop.trips) : Fin 3 → Nat :=
  let c0_69_r1 : Index := 0#32
  let c128_i32_r1 : BitVec 32 := 128#32
  let c0_i32_4_r1 : BitVec 32 := 0#32
  let c1_i32_r1 : BitVec 32 := 1#32
  let arg13_r1 : BitVec 32 := Scf.iv c0_i32_4_r1 c1_i32_r1 k0_t2
  let c32_i32_r1 : BitVec 32 := 32#32
  let v47_r1 : BitVec 32 := Scalar.muli arg13_r1 c32_i32_r1
  let v48_r1 : BitVec 32 := Scalar.addi c128_i32_r1 v47_r1
  let v49_r1 : BitVec 32 := v48_r1
  let v180_r1 : Index := Scalar.indexCast v49_r1
  let c1920_r1 : Index := 1920#32
  ![0, v180_r1.toNat, 1920]
@[reducible] def k0_t3_loop : Scf.Loop 32 :=
  let c0_i32_4_r2 : BitVec 32 := 0#32
  let c4_i32_r2 : BitVec 32 := 4#32
  let v7_r2 : BitVec 32 := Scalar.addi c0_i32_4_r2 c4_i32_r2
  let c1_i32_r2 : BitVec 32 := 1#32
  ⟨c0_i32_4_r2, v7_r2, c1_i32_r2⟩
def k0_mult3 (k0_t3 : Fin k0_t3_loop.trips) : BitVec 32 :=
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  v48_r2
def k0_off35 (k0_t3 : Fin k0_t3_loop.trips) : Fin 3 → Nat :=
  let c0_46_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v50_r2 : Index := Scalar.indexCast v49_r2
  let c0_47_r2 : Index := 0#32
  ![0, v50_r2.toNat, 0]
def k0_off36 (k0_t3 : Fin k0_t3_loop.trips) : Fin 3 → Nat :=
  let c0_53_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v60_r2 : Index := Scalar.indexCast v49_r2
  let c0_54_r2 : Index := 0#32
  ![0, v60_r2.toNat, 0]
def k0_off37 (k0_t3 : Fin k0_t3_loop.trips) : Fin 3 → Nat :=
  let c0_55_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v68_r2 : Index := Scalar.indexCast v49_r2
  let c128_r2 : Index := 128#32
  ![0, v68_r2.toNat, 128]
def k0_off38 (k0_t3 : Fin k0_t3_loop.trips) : Fin 3 → Nat :=
  let c0_56_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v76_r2 : Index := Scalar.indexCast v49_r2
  let c256_r2 : Index := 256#32
  ![0, v76_r2.toNat, 256]
def k0_off39 (k0_t3 : Fin k0_t3_loop.trips) : Fin 3 → Nat :=
  let c0_57_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v84_r2 : Index := Scalar.indexCast v49_r2
  let c384_r2 : Index := 384#32
  ![0, v84_r2.toNat, 384]
def k0_off40 (k0_t3 : Fin k0_t3_loop.trips) : Fin 3 → Nat :=
  let c0_58_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v92_r2 : Index := Scalar.indexCast v49_r2
  let c512_r2 : Index := 512#32
  ![0, v92_r2.toNat, 512]
def k0_off41 (k0_t3 : Fin k0_t3_loop.trips) : Fin 3 → Nat :=
  let c0_59_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v100_r2 : Index := Scalar.indexCast v49_r2
  let c640_r2 : Index := 640#32
  ![0, v100_r2.toNat, 640]
def k0_off42 (k0_t3 : Fin k0_t3_loop.trips) : Fin 3 → Nat :=
  let c0_60_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v108_r2 : Index := Scalar.indexCast v49_r2
  let c768_r2 : Index := 768#32
  ![0, v108_r2.toNat, 768]
def k0_off43 (k0_t3 : Fin k0_t3_loop.trips) : Fin 3 → Nat :=
  let c0_61_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v116_r2 : Index := Scalar.indexCast v49_r2
  let c896_r2 : Index := 896#32
  ![0, v116_r2.toNat, 896]
def k0_off44 (k0_t3 : Fin k0_t3_loop.trips) : Fin 3 → Nat :=
  let c0_62_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v124_r2 : Index := Scalar.indexCast v49_r2
  let c1024_r2 : Index := 1024#32
  ![0, v124_r2.toNat, 1024]
def k0_off45 (k0_t3 : Fin k0_t3_loop.trips) : Fin 3 → Nat :=
  let c0_63_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v132_r2 : Index := Scalar.indexCast v49_r2
  let c1152_r2 : Index := 1152#32
  ![0, v132_r2.toNat, 1152]
def k0_off46 (k0_t3 : Fin k0_t3_loop.trips) : Fin 3 → Nat :=
  let c0_64_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v140_r2 : Index := Scalar.indexCast v49_r2
  let c1280_r2 : Index := 1280#32
  ![0, v140_r2.toNat, 1280]
def k0_off47 (k0_t3 : Fin k0_t3_loop.trips) : Fin 3 → Nat :=
  let c0_65_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v148_r2 : Index := Scalar.indexCast v49_r2
  let c1408_r2 : Index := 1408#32
  ![0, v148_r2.toNat, 1408]
def k0_off48 (k0_t3 : Fin k0_t3_loop.trips) : Fin 3 → Nat :=
  let c0_66_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v156_r2 : Index := Scalar.indexCast v49_r2
  let c1536_r2 : Index := 1536#32
  ![0, v156_r2.toNat, 1536]
def k0_off49 (k0_t3 : Fin k0_t3_loop.trips) : Fin 3 → Nat :=
  let c0_67_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v164_r2 : Index := Scalar.indexCast v49_r2
  let c1664_r2 : Index := 1664#32
  ![0, v164_r2.toNat, 1664]
def k0_off50 (k0_t3 : Fin k0_t3_loop.trips) : Fin 3 → Nat :=
  let c0_68_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v172_r2 : Index := Scalar.indexCast v49_r2
  let c1792_r2 : Index := 1792#32
  ![0, v172_r2.toNat, 1792]
def k0_off51 (k0_t3 : Fin k0_t3_loop.trips) : Fin 3 → Nat :=
  let c0_69_r2 : Index := 0#32
  let c256_i32_r2 : BitVec 32 := 256#32
  let c0_i32_4_r2 : BitVec 32 := 0#32
  let c1_i32_r2 : BitVec 32 := 1#32
  let arg13_r2 : BitVec 32 := Scf.iv c0_i32_4_r2 c1_i32_r2 k0_t3
  let c32_i32_r2 : BitVec 32 := 32#32
  let v47_r2 : BitVec 32 := Scalar.muli arg13_r2 c32_i32_r2
  let v48_r2 : BitVec 32 := Scalar.addi c256_i32_r2 v47_r2
  let v49_r2 : BitVec 32 := v48_r2
  let v180_r2 : Index := Scalar.indexCast v49_r2
  let c1920_r2 : Index := 1920#32
  ![0, v180_r2.toNat, 1920]
@[reducible] def k0_t4_loop : Scf.Loop 32 :=
  let c0_i32_4_r3 : BitVec 32 := 0#32
  let c4_i32_r3 : BitVec 32 := 4#32
  let v7_r3 : BitVec 32 := Scalar.addi c0_i32_4_r3 c4_i32_r3
  let c1_i32_r3 : BitVec 32 := 1#32
  ⟨c0_i32_4_r3, v7_r3, c1_i32_r3⟩
def k0_mult4 (k0_t4 : Fin k0_t4_loop.trips) : BitVec 32 :=
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  v48_r3
def k0_off52 (k0_t4 : Fin k0_t4_loop.trips) : Fin 3 → Nat :=
  let c0_45_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v50_r3 : Index := Scalar.indexCast v49_r3
  let c0_46_r3 : Index := 0#32
  ![0, v50_r3.toNat, 0]
def k0_off53 (k0_t4 : Fin k0_t4_loop.trips) : Fin 3 → Nat :=
  let c0_52_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v60_r3 : Index := Scalar.indexCast v49_r3
  let c0_53_r3 : Index := 0#32
  ![0, v60_r3.toNat, 0]
def k0_off54 (k0_t4 : Fin k0_t4_loop.trips) : Fin 3 → Nat :=
  let c0_54_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v68_r3 : Index := Scalar.indexCast v49_r3
  let c128_r3 : Index := 128#32
  ![0, v68_r3.toNat, 128]
def k0_off55 (k0_t4 : Fin k0_t4_loop.trips) : Fin 3 → Nat :=
  let c0_55_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v76_r3 : Index := Scalar.indexCast v49_r3
  let c256_r3 : Index := 256#32
  ![0, v76_r3.toNat, 256]
def k0_off56 (k0_t4 : Fin k0_t4_loop.trips) : Fin 3 → Nat :=
  let c0_56_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v84_r3 : Index := Scalar.indexCast v49_r3
  let c384_r3 : Index := 384#32
  ![0, v84_r3.toNat, 384]
def k0_off57 (k0_t4 : Fin k0_t4_loop.trips) : Fin 3 → Nat :=
  let c0_57_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v92_r3 : Index := Scalar.indexCast v49_r3
  let c512_r3 : Index := 512#32
  ![0, v92_r3.toNat, 512]
def k0_off58 (k0_t4 : Fin k0_t4_loop.trips) : Fin 3 → Nat :=
  let c0_58_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v100_r3 : Index := Scalar.indexCast v49_r3
  let c640_r3 : Index := 640#32
  ![0, v100_r3.toNat, 640]
def k0_off59 (k0_t4 : Fin k0_t4_loop.trips) : Fin 3 → Nat :=
  let c0_59_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v108_r3 : Index := Scalar.indexCast v49_r3
  let c768_r3 : Index := 768#32
  ![0, v108_r3.toNat, 768]
def k0_off60 (k0_t4 : Fin k0_t4_loop.trips) : Fin 3 → Nat :=
  let c0_60_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v116_r3 : Index := Scalar.indexCast v49_r3
  let c896_r3 : Index := 896#32
  ![0, v116_r3.toNat, 896]
def k0_off61 (k0_t4 : Fin k0_t4_loop.trips) : Fin 3 → Nat :=
  let c0_61_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v124_r3 : Index := Scalar.indexCast v49_r3
  let c1024_r3 : Index := 1024#32
  ![0, v124_r3.toNat, 1024]
def k0_off62 (k0_t4 : Fin k0_t4_loop.trips) : Fin 3 → Nat :=
  let c0_62_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v132_r3 : Index := Scalar.indexCast v49_r3
  let c1152_r3 : Index := 1152#32
  ![0, v132_r3.toNat, 1152]
def k0_off63 (k0_t4 : Fin k0_t4_loop.trips) : Fin 3 → Nat :=
  let c0_63_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v140_r3 : Index := Scalar.indexCast v49_r3
  let c1280_r3 : Index := 1280#32
  ![0, v140_r3.toNat, 1280]
def k0_off64 (k0_t4 : Fin k0_t4_loop.trips) : Fin 3 → Nat :=
  let c0_64_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v148_r3 : Index := Scalar.indexCast v49_r3
  let c1408_r3 : Index := 1408#32
  ![0, v148_r3.toNat, 1408]
def k0_off65 (k0_t4 : Fin k0_t4_loop.trips) : Fin 3 → Nat :=
  let c0_65_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v156_r3 : Index := Scalar.indexCast v49_r3
  let c1536_r3 : Index := 1536#32
  ![0, v156_r3.toNat, 1536]
def k0_off66 (k0_t4 : Fin k0_t4_loop.trips) : Fin 3 → Nat :=
  let c0_66_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v164_r3 : Index := Scalar.indexCast v49_r3
  let c1664_r3 : Index := 1664#32
  ![0, v164_r3.toNat, 1664]
def k0_off67 (k0_t4 : Fin k0_t4_loop.trips) : Fin 3 → Nat :=
  let c0_67_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v172_r3 : Index := Scalar.indexCast v49_r3
  let c1792_r3 : Index := 1792#32
  ![0, v172_r3.toNat, 1792]
def k0_off68 (k0_t4 : Fin k0_t4_loop.trips) : Fin 3 → Nat :=
  let c0_68_r3 : Index := 0#32
  let c384_i32_r3 : BitVec 32 := 384#32
  let c0_i32_4_r3 : BitVec 32 := 0#32
  let c1_i32_r3 : BitVec 32 := 1#32
  let arg13_r3 : BitVec 32 := Scf.iv c0_i32_4_r3 c1_i32_r3 k0_t4
  let c32_i32_r3 : BitVec 32 := 32#32
  let v47_r3 : BitVec 32 := Scalar.muli arg13_r3 c32_i32_r3
  let v48_r3 : BitVec 32 := Scalar.addi c384_i32_r3 v47_r3
  let v49_r3 : BitVec 32 := v48_r3
  let v180_r3 : Index := Scalar.indexCast v49_r3
  let c1920_r3 : Index := 1920#32
  ![0, v180_r3.toNat, 1920]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x3x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x4x3x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8x2560x2048 : Shape := ⟨3, ![8, 2560, 2048]⟩
abbrev S8x2560x16 : Shape := ⟨3, ![8, 2560, 16]⟩
abbrev S8x2048 : Shape := ⟨2, ![8, 2048]⟩
abbrev S8x2560x16x128 : Shape := ⟨4, ![8, 2560, 16, 128]⟩
abbrev S8x2560x16x1 : Shape := ⟨4, ![8, 2560, 16, 1]⟩
abbrev S_ : Shape := ⟨0, ![]⟩
abbrev S8x2560 : Shape := ⟨2, ![8, 2560]⟩
abbrev S8x2560x1 : Shape := ⟨3, ![8, 2560, 1]⟩
abbrev S8x20x128x2048 : Shape := ⟨4, ![8, 20, 128, 2048]⟩
abbrev S8x20x2048 : Shape := ⟨3, ![8, 20, 2048]⟩
abbrev S8x20x1x2048 : Shape := ⟨4, ![8, 20, 1, 2048]⟩
abbrev S8x20x3x2048 : Shape := ⟨4, ![8, 20, 3, 2048]⟩
abbrev S8x1x2048 : Shape := ⟨3, ![8, 1, 2048]⟩
abbrev S8x3x2048 : Shape := ⟨3, ![8, 3, 2048]⟩

abbrev nBuf : Space → Nat
  | .hbm => 93
  | .vmem => 6
  | .smem => 0
  | _ => 0

abbrev bufTy : (tb : Table) → Fin (tcTables nBuf tb) → BufTy
  | .hbm, ⟨0, _⟩ => ⟨S8x2560x2048, .fp8e4m3⟩
  | .hbm, ⟨1, _⟩ => ⟨S8x2560x16, .f32⟩
  | .hbm, ⟨2, _⟩ => ⟨S8x2560x2048, .bf16⟩
  | .hbm, ⟨3, _⟩ => ⟨S8x2560x2048, .fp8e5m2⟩
  | .hbm, ⟨4, _⟩ => ⟨S8x2560x16, .f32⟩
  | .hbm, ⟨5, _⟩ => ⟨S8x2560x2048, .fp8e5m2⟩
  | .hbm, ⟨6, _⟩ => ⟨S8x2560x16, .f32⟩
  | .hbm, ⟨7, _⟩ => ⟨S8x2048, .f32⟩
  | .hbm, ⟨8, _⟩ => ⟨S8x2560x2048, .f32⟩
  | .hbm, ⟨9, _⟩ => ⟨S8x2560x2048, .f32⟩
  | .hbm, ⟨10, _⟩ => ⟨S8x2560x2048, .f32⟩
  | .hbm, ⟨11, _⟩ => ⟨S8x2560x16x128, .f32⟩
  | .hbm, ⟨12, _⟩ => ⟨S8x2560x16x1, .f32⟩
  | .hbm, ⟨13, _⟩ => ⟨S8x2560x16x128, .f32⟩
  | .hbm, ⟨14, _⟩ => ⟨S8x2560x16x128, .f32⟩
  | .hbm, ⟨15, _⟩ => ⟨S8x2560x2048, .f32⟩
  | .hbm, ⟨16, _⟩ => ⟨S8x2560x16x128, .f32⟩
  | .hbm, ⟨17, _⟩ => ⟨S8x2560x16x1, .f32⟩
  | .hbm, ⟨18, _⟩ => ⟨S8x2560x16x128, .f32⟩
  | .hbm, ⟨19, _⟩ => ⟨S8x2560x16x128, .f32⟩
  | .hbm, ⟨20, _⟩ => ⟨S8x2560x2048, .f32⟩
  | .hbm, ⟨21, _⟩ => ⟨S8x2560x16x128, .f32⟩
  | .hbm, ⟨22, _⟩ => ⟨S8x2560x16x1, .f32⟩
  | .hbm, ⟨23, _⟩ => ⟨S8x2560x16x128, .f32⟩
  | .hbm, ⟨24, _⟩ => ⟨S8x2560x16x128, .f32⟩
  | .hbm, ⟨25, _⟩ => ⟨S8x2560x2048, .f32⟩
  | .hbm, ⟨26, _⟩ => ⟨S_, .f32⟩
  | .hbm, ⟨27, _⟩ => ⟨S8x2560, .f32⟩
  | .hbm, ⟨28, _⟩ => ⟨S8x2560x1, .f32⟩
  | .hbm, ⟨29, _⟩ => ⟨S_, .f32⟩
  | .hbm, ⟨30, _⟩ => ⟨S8x2560x1, .f32⟩
  | .hbm, ⟨31, _⟩ => ⟨S8x2560x1, .f32⟩
  | .hbm, ⟨32, _⟩ => ⟨S8x2560x2048, .f32⟩
  | .hbm, ⟨33, _⟩ => ⟨S8x2560x2048, .f32⟩
  | .hbm, ⟨34, _⟩ => ⟨S8x2560x2048, .f32⟩
  | .hbm, ⟨35, _⟩ => ⟨S_, .f32⟩
  | .hbm, ⟨36, _⟩ => ⟨S8x2560, .f32⟩
  | .hbm, ⟨37, _⟩ => ⟨S8x2560x1, .f32⟩
  | .hbm, ⟨38, _⟩ => ⟨S_, .f32⟩
  | .hbm, ⟨39, _⟩ => ⟨S8x2560x1, .f32⟩
  | .hbm, ⟨40, _⟩ => ⟨S8x2560x1, .f32⟩
  | .hbm, ⟨41, _⟩ => ⟨S_, .f32⟩
  | .hbm, ⟨42, _⟩ => ⟨S8x2560x1, .f32⟩
  | .hbm, ⟨43, _⟩ => ⟨S8x2560x1, .f32⟩
  | .hbm, ⟨44, _⟩ => ⟨S8x2560x1, .f32⟩
  | .hbm, ⟨45, _⟩ => ⟨S8x2560x2048, .f32⟩
  | .hbm, ⟨46, _⟩ => ⟨S8x2560x2048, .f32⟩
  | .hbm, ⟨47, _⟩ => ⟨S8x20x128x2048, .f32⟩
  | .hbm, ⟨48, _⟩ => ⟨S_, .f32⟩
  | .hbm, ⟨49, _⟩ => ⟨S8x20x2048, .f32⟩
  | .hbm, ⟨50, _⟩ => ⟨S8x2560x2048, .f32⟩
  | .hbm, ⟨51, _⟩ => ⟨S8x20x128x2048, .f32⟩
  | .hbm, ⟨52, _⟩ => ⟨S_, .f32⟩
  | .hbm, ⟨53, _⟩ => ⟨S8x20x2048, .f32⟩
  | .hbm, ⟨54, _⟩ => ⟨S8x2560x2048, .f32⟩
  | .hbm, ⟨55, _⟩ => ⟨S8x2560x2048, .f32⟩
  | .hbm, ⟨56, _⟩ => ⟨S8x20x128x2048, .f32⟩
  | .hbm, ⟨57, _⟩ => ⟨S_, .f32⟩
  | .hbm, ⟨58, _⟩ => ⟨S8x20x2048, .f32⟩
  | .hbm, ⟨59, _⟩ => ⟨S8x20x1x2048, .f32⟩
  | .hbm, ⟨60, _⟩ => ⟨S8x20x1x2048, .f32⟩
  | .hbm, ⟨61, _⟩ => ⟨S8x20x1x2048, .f32⟩
  | .hbm, ⟨62, _⟩ => ⟨S8x20x3x2048, .f32⟩
  | .hbm, ⟨63, _⟩ => ⟨S8x1x2048, .f32⟩
  | .hbm, ⟨64, _⟩ => ⟨S_, .f32⟩
  | .hbm, ⟨65, _⟩ => ⟨S8x1x2048, .f32⟩
  | .hbm, ⟨66, _⟩ => ⟨S8x1x2048, .f32⟩
  | .hbm, ⟨67, _⟩ => ⟨S8x2560x2048, .f32⟩
  | .hbm, ⟨68, _⟩ => ⟨S8x2560x2048, .f32⟩
  | .hbm, ⟨69, _⟩ => ⟨S_, .f32⟩
  | .hbm, ⟨70, _⟩ => ⟨S8x2560, .f32⟩
  | .hbm, ⟨71, _⟩ => ⟨S8x2560x1, .f32⟩
  | .hbm, ⟨72, _⟩ => ⟨S_, .f32⟩
  | .hbm, ⟨73, _⟩ => ⟨S8x2560x1, .f32⟩
  | .hbm, ⟨74, _⟩ => ⟨S8x2560x1, .f32⟩
  | .hbm, ⟨75, _⟩ => ⟨S8x2560x2048, .f32⟩
  | .hbm, ⟨76, _⟩ => ⟨S_, .f32⟩
  | .hbm, ⟨77, _⟩ => ⟨S8x2560, .f32⟩
  | .hbm, ⟨78, _⟩ => ⟨S8x2560x1, .f32⟩
  | .hbm, ⟨79, _⟩ => ⟨S_, .f32⟩
  | .hbm, ⟨80, _⟩ => ⟨S8x2560x1, .f32⟩
  | .hbm, ⟨81, _⟩ => ⟨S8x2560x1, .f32⟩
  | .hbm, ⟨82, _⟩ => ⟨S8x2560x2048, .f32⟩
  | .hbm, ⟨83, _⟩ => ⟨S8x2560x2048, .f32⟩
  | .hbm, ⟨84, _⟩ => ⟨S8x2560x2048, .f32⟩
  | .hbm, ⟨85, _⟩ => ⟨S8x2560x2048, .f32⟩
  | .hbm, ⟨86, _⟩ => ⟨S8x2560x2048, .f32⟩
  | .hbm, ⟨87, _⟩ => ⟨S8x2560x2048, .f32⟩
  | .hbm, ⟨88, _⟩ => ⟨S8x2560x2048, .f32⟩
  | .hbm, ⟨89, _⟩ => ⟨S8x2560x2048, .f32⟩
  | .hbm, ⟨90, _⟩ => ⟨S8x2560x2048, .bf16⟩
  | .hbm, ⟨91, _⟩ => ⟨S_, .f32⟩
  | .hbm, ⟨92, _⟩ => ⟨S8x3x2048, .f32⟩
  | .local _ .vmem, ⟨0, _⟩ => ⟨S8x2560x2048, .fp8e4m3⟩
  | .local _ .vmem, ⟨1, _⟩ => ⟨S8x2560x2048, .fp8e5m2⟩
  | .local _ .vmem, ⟨2, _⟩ => ⟨S8x2560x2048, .fp8e5m2⟩
  | .local _ .vmem, ⟨3, _⟩ => ⟨S8x2560x2048, .f32⟩
  | .local _ .vmem, ⟨4, _⟩ => ⟨S8x2560x2048, .f32⟩
  | .local _ .vmem, ⟨5, _⟩ => ⟨S8x2560x2048, .f32⟩
  | _, _ => ⟨S8x2560x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_12 : Ref sig .tc := ⟨.hbm, 91, rfl⟩
abbrev main_v68 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2560x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2560x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2560x2048 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2560x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2560x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2560x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelFrame.Runs.lean ====
/-
  What the frame of the kernel at the machine's floats shares: the contents of the arrays, the blocks staged at each point, the
  kernel's staging buffers, and the claim from a run of the pipeline. Nothing here names what the kernel leaves in its outputs:
  the claim is about the arguments alone.
-/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (Pipeline.mem_restRefs_of main_arg7 (by decide) (by decide))).trans (V_main_arg7 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 5) — by arithmetic of the point. -/
theorem hcond0_0 : ∀ t : Fin cfg0.N, cond0_0 (grid0.coords t) ↔ t.val % 5 = 0 :=
  (fun t => by
    have ht : t.val < 40 := Nat.lt_of_lt_of_eq t.isLt N_0
    have e0 : (grid0.coords t 0).val = t.val / 5 % 8 := Pipeline.Grid.coords_val t 0 (by decide) rfl
    have e1 : (grid0.coords t 1).val = t.val / 1 % 5 := Pipeline.Grid.coords_val t 1 (by decide) rfl
    simp only [cond0_0, e0, e1]
    word_cmp
   : ∀ t : Fin grid0.N, cond0_0 (grid0.coords t) ↔ t.val % 5 = 0)

/-! ## The kernel body on any staging memrefs: a subtype the run finds -/

/-- Each window's current staging memref at point `t`, spelled as the pipeline passes it (`bodyAt0`), and its wholeness. -/
abbrev ms0_0 (t : Fin cfg0.N) : Memref sig .tc .vmem S1x512x2048 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x2048 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x2048 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x2048 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x16 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x512x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3x2048 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x3x2048 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S3x8x2048 .f32 := Memref.whole cc0_scoped0
abbrev scM0_1 : Memref sig .tc .vmem S3x8x2048 .f32 := Memref.whole cc0_scoped1
abbrev scM0_2 : Memref sig .tc .vmem S3x8x2048 .f32 := Memref.whole cc0_scoped2
abbrev scM0_3 : Memref sig .tc .vmem S3x8x2048 .f32 := Memref.whole cc0_scoped3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Gen

end
-- ==== Proof.KernelFrame.RunA.lean ====
/-
  The kernel's body at the first token block of an image, where `dmod` is cleared: it runs and keeps its inputs. What it leaves
  in its outputs is not named.
-/
module

public import proofs.«01_k».proof.Proof.KernelFrame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken: points 0, 5, … 35: 8 of 40): on whole staging memrefs — the inputs' at their contents,
    the FORGOTTEN outputs' (8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3) K := by
    intro E K
    simp only [cc0__body_eq_skeleton]; unfold cc0__body_skel
    simp only [k0_part189_eq_skeleton, k0_part190_eq_skeleton, k0_part191_eq_skeleton, k0_part192_eq_skeleton, k0_part193_eq_skeleton, k0_part194_eq_skeleton, k0_part195_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KernelFrame.RunB.lean ====
/-
  The kernel's body at the other token blocks: it runs and keeps its inputs. What it leaves in its outputs is not named.
-/
module

public import proofs.«01_k».proof.Proof.KernelFrame.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 1, 2, … 39: 32 of 40): on whole staging memrefs — the inputs' at their contents,
    the FORGOTTEN outputs' (8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : ¬cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3) K := by
    intro E K
    simp only [cc0__body_eq_skeleton]; unfold cc0__body_skel
    simp only [k0_part189_eq_skeleton, k0_part190_eq_skeleton, k0_part191_eq_skeleton, k0_part192_eq_skeleton, k0_part193_eq_skeleton, k0_part194_eq_skeleton, k0_part195_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Gen

end
-- ==== Proof.KernelFrame.Frame.lean ====
/-
  The frame of the kernel at the machine's floats: it runs to its end and leaves every argument as it was. The kernel's outputs
  may hold anything; what they hold is proved of the kernel at the extended reals.
-/
module

public import proofs.«01_k».proof.Proof.KernelFrame.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (8, 9, 10): nothing reads what the kernel leaves in them, so nothing
    of it is named (Lib/Pipeline/Dat.lean `Dat.toRForget`). -/
def forgets0 : Fin 11 → Bool := fun w => w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  have hN : t.val < 40 := lt_of_lt_of_eq t.isLt (show cfg0.N = 40 from N_0)
  by_cases h0 : t.val % 5 = 0
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, H8, H9, H10, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Gen

end
-- ==== Proof.Trip.lean ====
/-
  One trip of the kernel's row loops, as vectors. Each of the four loops (one per block of 128 rows) walks its block 32
  rows at a time, and its body is the same computation on 32 rows of the inputs: this module writes that computation
  once, over the vectors the trip loads (`Loads`), with the 16 channel blocks of 128 columns as an index `b : Fin 16`.
  `LoopEqs.lean` identifies what each loop of the program stores with `dxPieces` and `accPieces` below.
-/
module

public import proofs.«01_k».proof.Proof.Gen.KernelIdeal.Loops

@[expose] public section

noncomputable section

namespace Cert.KernelIdeal.Body

open Idealize.ShloMosaic Idealize.SL.Sem Cert.KernelIdeal.Gen

variable {F : FTy → Type} [FloatOps F]

/-- What one trip loads of the eight inputs: 32 rows of each scale array, and of each data array 32 rows of every
    channel block. -/
structure Loads (F : FTy → Type) where
  xs : Vec F S1x32x16 .f32
  dys : Vec F S1x32x16 .f32
  dhs : Vec F S1x32x16 .f32
  xc : Fin 16 → Vec F S1x32x128 .fp8e4m3
  dyc : Fin 16 → Vec F S1x32x128 .fp8e5m2
  dhc : Fin 16 → Vec F S1x32x128 .fp8e5m2
  fo : Fin 16 → Vec F S1x32x128 .bf16
  ms : Fin 16 → Vec F S1x1x128 .f32

/-- Column `b` of a 32 by 16 vector can be cut out. -/
theorem slices_col : ∀ b : Fin 16, S32x16.Slices ![0, b.val] S32x1 := by decide

/-- Column `b` of a trip's scales, repeated over the 128 columns of channel block `b`. -/
def scaleCol (s : Vec F S1x32x16 .f32) (b : Fin 16) : FVec F S32x128 .f32 :=
  broadcastTo S32x128 (extractStridedSlice S32x1 ![0, b.val] (shapeCast S32x16 s shapeCasts_S1x32x16_S32x16 : FVec F S32x16 .f32)
    (slices_col b)) broadcasts_S32x1_S32x128

/-- A vector with one entry per row, repeated over 128 columns. -/
def rowCol (v : FVec F S32x1 .f32) : FVec F S32x128 .f32 := broadcastTo S32x128 v broadcasts_S32x1_S32x128

/-- The sum of the 16 channel blocks, added from zero in order. -/
def chain (f : Fin 16 → FVec F S32x128 .f32) : FVec F S32x128 .f32 :=
  addf (addf (addf (addf (addf (addf (addf (addf (addf (addf (addf (addf (addf (addf (addf (addf (broadcast S32x128 (Scalar.ofBits .f32 0x00000000#32)) (f 0)) (f 1)) (f 2)) (f 3)) (f 4)) (f 5)) (f 6)) (f 7)) (f 8)) (f 9)) (f 10)) (f 11)) (f 12)) (f 13)) (f 14)) (f 15)

/-- The mean over the 2048 columns of a row, as the kernel takes it: the channel blocks' sum, summed over its 128
    columns, times the constant 1/2048. -/
def rowMean (f : Fin 16 → FVec F S32x128 .f32) : FVec F S32x1 .f32 :=
  mulf (shapeCast S32x1 (multiReduction .add [1] S32 (chain f) 0x00000000#32 reduces_S32x128_S32 (.inl rfl) rfl : FVec F S32 .f32)
    shapeCasts_S32_S32x1) (broadcast S32x1 (Scalar.ofBits .f32 0x3A000000#32))

/-- The sums of every eighth row: 32 rows reduced to 8. -/
def sub8 (v : FVec F S32x128 .f32) : FVec F S8x128 .f32 :=
  multiReduction .add [0] S8x128 (shapeCast S4x8x128 v shapeCasts_S32x128_S4x8x128 : FVec F S4x8x128 .f32) 0x00000000#32
    reduces_S4x8x128_S8x128 (.inl rfl) rfl

namespace Loads

variable (L : Loads F)

/-- `x`, dequantized. -/
def x (b : Fin 16) : FVec F S32x128 .f32 :=
  mulf (extf .f32 (shapeCast S32x128 (L.xc b) shapeCasts_S1x32x128_S32x128 : FVec F S32x128 .fp8e4m3) bitsLt_fp8e4m3_f32) (scaleCol L.xs b)

/-- `dh`, dequantized. -/
def dh (b : Fin 16) : FVec F S32x128 .f32 :=
  mulf (extf .f32 (shapeCast S32x128 (L.dhc b) shapeCasts_S1x32x128_S32x128 : FVec F S32x128 .fp8e5m2) bitsLt_fp8e5m2_f32) (scaleCol L.dhs b)

/-- `dy`, dequantized. -/
def dy (b : Fin 16) : FVec F S32x128 .f32 :=
  mulf (extf .f32 (shapeCast S32x128 (L.dyc b) shapeCasts_S1x32x128_S32x128 : FVec F S32x128 .fp8e5m2) bitsLt_fp8e5m2_f32) (scaleCol L.dys b)

/-- The mean of `x` over a row. -/
def mu : FVec F S32x1 .f32 := rowMean L.x

/-- `x` less a per-row mean. -/
def xmOf (m : FVec F S32x1 .f32) (b : Fin 16) : FVec F S32x128 .f32 := subf (L.x b) (rowCol m)

/-- The reciprocal standard deviation of a row, given its mean. -/
def rstdOf (m : FVec F S32x1 .f32) : FVec F S32x1 .f32 :=
  rsqrt (addf (rowMean fun b => mulf (L.xmOf m b) (L.xmOf m b)) (broadcast S32x1 (Scalar.ofBits .f32 0x358637BD#32)))

/-- The normalized `x`, given the mean and the reciprocal standard deviation. -/
def xhatOf (m r : FVec F S32x1 .f32) (b : Fin 16) : FVec F S32x128 .f32 := mulf (L.xmOf m b) (rowCol r)

/-- The reciprocal standard deviation of a row. -/
def rstd : FVec F S32x1 .f32 := L.rstdOf L.mu

/-- `dh` times one plus the modulation scale. -/
def g (b : Fin 16) : FVec F S32x128 .f32 :=
  mulf (L.dh b) (broadcastTo S32x128 (addf (broadcast S1x128 (Scalar.ofBits .f32 0x3F800000#32))
    (shapeCast S1x128 (L.ms b) shapeCasts_S1x1x128_S1x128 : FVec F S1x128 .f32)) broadcasts_S1x128_S32x128)

/-- The mean of `g` over a row. -/
def gm : FVec F S32x1 .f32 := rowMean L.g

/-- The mean of `g` times the normalized `x` over a row, given the row's statistics. -/
def gxmOf (m r : FVec F S32x1 .f32) : FVec F S32x1 .f32 := rowMean fun b => mulf (L.g b) (L.xhatOf m r b)

/-- The mean of `g` times the normalized `x` over a row. -/
def gxm : FVec F S32x1 .f32 := L.gxmOf L.mu L.rstd

/-- The trip's `dx`, as stored, given the four row statistics. -/
def dxOf (m r gm gxm : FVec F S32x1 .f32) (b : Fin 16) : FVec F S1x32x128 .bf16 :=
  shapeCast S1x32x128 (truncf .bf16 (addf (L.dy b) (mulf (rowCol r)
    (subf (subf (L.g b) (rowCol gm)) (mulf (L.xhatOf m r b) (rowCol gxm))))) bitsLt_bf16_f32 : FVec F S32x128 .bf16) shapeCasts_S32x128_S1x32x128

/-- What the trip adds to the first running sum: `dh`, reduced to 8 rows. -/
def term0 (b : Fin 16) : FVec F S8x128 .f32 := sub8 (L.dh b)

/-- What the trip adds to the second running sum: `dh` times the normalized `x`, reduced to 8 rows. -/
def term1Of (m r : FVec F S32x1 .f32) (b : Fin 16) : FVec F S8x128 .f32 := sub8 (mulf (L.dh b) (L.xhatOf m r b))

/-- What the trip adds to the third running sum: `dy` times `f_out`, reduced to 8 rows. -/
def term2 (b : Fin 16) : FVec F S8x128 .f32 :=
  sub8 (mulf (L.dy b) (extf .f32 (shapeCast S32x128 (L.fo b) shapeCasts_S1x32x128_S32x128 : FVec F S32x128 .bf16) bitsLt_bf16_f32))

end Loads

/-- Channel block `b` of running sum `k`. -/
theorem inb_acc : ∀ (k : Fin 3) (b : Fin 16) (a : Fin 3), (![k.val, 0, 128 * b.val] : Fin 3 → Nat) a + S1x8x128.size a ≤ S3x8x2048.size a := by decide

/-- The rectangle of channel block `b` of running sum `k`. -/
abbrev accRect (k : Fin 3) (b : Fin 16) : Rect S3x8x2048 := Rect.unit ![k.val, 0, 128 * b.val] S1x8x128.size (inb_acc k b)

/-- One running sum's channel block, with a trip's term added. -/
def accVal (old : Vec F S1x8x128 .f32) (t : FVec F S8x128 .f32) : FVec F S1x8x128 .f32 :=
  shapeCast S1x8x128 (addf (shapeCast S8x128 old shapeCasts_S1x8x128_S8x128 : FVec F S8x128 .f32) t) shapeCasts_S8x128_S1x8x128

/-- The pieces a trip writes to `dx`, last first: channel block `b` at the rectangle `off b`. -/
def dxPieces (off : Fin 16 → Fin 3 → ℕ) (hoff : ∀ b a, off b a + S1x32x128.size a ≤ S1x512x2048.size a) (L : Loads F)
    (m r gm gxm : FVec F S32x1 .f32) :
    List (View.Piece (Elt F) S1x512x2048 .bf16) :=
  [⟨Rect.unit (off 15) S1x32x128.size (hoff 15), L.dxOf m r gm gxm 15⟩,
   ⟨Rect.unit (off 14) S1x32x128.size (hoff 14), L.dxOf m r gm gxm 14⟩,
   ⟨Rect.unit (off 13) S1x32x128.size (hoff 13), L.dxOf m r gm gxm 13⟩,
   ⟨Rect.unit (off 12) S1x32x128.size (hoff 12), L.dxOf m r gm gxm 12⟩,
   ⟨Rect.unit (off 11) S1x32x128.size (hoff 11), L.dxOf m r gm gxm 11⟩,
   ⟨Rect.unit (off 10) S1x32x128.size (hoff 10), L.dxOf m r gm gxm 10⟩,
   ⟨Rect.unit (off 9) S1x32x128.size (hoff 9), L.dxOf m r gm gxm 9⟩,
   ⟨Rect.unit (off 8) S1x32x128.size (hoff 8), L.dxOf m r gm gxm 8⟩,
   ⟨Rect.unit (off 7) S1x32x128.size (hoff 7), L.dxOf m r gm gxm 7⟩,
   ⟨Rect.unit (off 6) S1x32x128.size (hoff 6), L.dxOf m r gm gxm 6⟩,
   ⟨Rect.unit (off 5) S1x32x128.size (hoff 5), L.dxOf m r gm gxm 5⟩,
   ⟨Rect.unit (off 4) S1x32x128.size (hoff 4), L.dxOf m r gm gxm 4⟩,
   ⟨Rect.unit (off 3) S1x32x128.size (hoff 3), L.dxOf m r gm gxm 3⟩,
   ⟨Rect.unit (off 2) S1x32x128.size (hoff 2), L.dxOf m r gm gxm 2⟩,
   ⟨Rect.unit (off 1) S1x32x128.size (hoff 1), L.dxOf m r gm gxm 1⟩,
   ⟨Rect.unit (off 0) S1x32x128.size (hoff 0), L.dxOf m r gm gxm 0⟩]

/-- The pieces a trip writes to the running sums `al`, last first, where the running sums held `f`. -/
def accPieces (al : Memref sig .tc .vmem S3x8x2048 .f32) (f : BufTy.Contents (Elt F) al.view.ty) (L : Loads F)
    (m r : FVec F S32x1 .f32) :
    List (View.Piece (Elt F) S3x8x2048 .f32) :=
  [⟨accRect 2 15, accVal (View.readAt (Elt F) al.view (accRect 2 15).toLoadRect f) (L.term2 15)⟩,
   ⟨accRect 1 15, accVal (View.readAt (Elt F) al.view (accRect 1 15).toLoadRect f) (L.term1Of m r 15)⟩,
   ⟨accRect 0 15, accVal (View.readAt (Elt F) al.view (accRect 0 15).toLoadRect f) (L.term0 15)⟩,
   ⟨accRect 2 14, accVal (View.readAt (Elt F) al.view (accRect 2 14).toLoadRect f) (L.term2 14)⟩,
   ⟨accRect 1 14, accVal (View.readAt (Elt F) al.view (accRect 1 14).toLoadRect f) (L.term1Of m r 14)⟩,
   ⟨accRect 0 14, accVal (View.readAt (Elt F) al.view (accRect 0 14).toLoadRect f) (L.term0 14)⟩,
   ⟨accRect 2 13, accVal (View.readAt (Elt F) al.view (accRect 2 13).toLoadRect f) (L.term2 13)⟩,
   ⟨accRect 1 13, accVal (View.readAt (Elt F) al.view (accRect 1 13).toLoadRect f) (L.term1Of m r 13)⟩,
   ⟨accRect 0 13, accVal (View.readAt (Elt F) al.view (accRect 0 13).toLoadRect f) (L.term0 13)⟩,
   ⟨accRect 2 12, accVal (View.readAt (Elt F) al.view (accRect 2 12).toLoadRect f) (L.term2 12)⟩,
   ⟨accRect 1 12, accVal (View.readAt (Elt F) al.view (accRect 1 12).toLoadRect f) (L.term1Of m r 12)⟩,
   ⟨accRect 0 12, accVal (View.readAt (Elt F) al.view (accRect 0 12).toLoadRect f) (L.term0 12)⟩,
   ⟨accRect 2 11, accVal (View.readAt (Elt F) al.view (accRect 2 11).toLoadRect f) (L.term2 11)⟩,
   ⟨accRect 1 11, accVal (View.readAt (Elt F) al.view (accRect 1 11).toLoadRect f) (L.term1Of m r 11)⟩,
   ⟨accRect 0 11, accVal (View.readAt (Elt F) al.view (accRect 0 11).toLoadRect f) (L.term0 11)⟩,
   ⟨accRect 2 10, accVal (View.readAt (Elt F) al.view (accRect 2 10).toLoadRect f) (L.term2 10)⟩,
   ⟨accRect 1 10, accVal (View.readAt (Elt F) al.view (accRect 1 10).toLoadRect f) (L.term1Of m r 10)⟩,
   ⟨accRect 0 10, accVal (View.readAt (Elt F) al.view (accRect 0 10).toLoadRect f) (L.term0 10)⟩,
   ⟨accRect 2 9, accVal (View.readAt (Elt F) al.view (accRect 2 9).toLoadRect f) (L.term2 9)⟩,
   ⟨accRect 1 9, accVal (View.readAt (Elt F) al.view (accRect 1 9).toLoadRect f) (L.term1Of m r 9)⟩,
   ⟨accRect 0 9, accVal (View.readAt (Elt F) al.view (accRect 0 9).toLoadRect f) (L.term0 9)⟩,
   ⟨accRect 2 8, accVal (View.readAt (Elt F) al.view (accRect 2 8).toLoadRect f) (L.term2 8)⟩,
   ⟨accRect 1 8, accVal (View.readAt (Elt F) al.view (accRect 1 8).toLoadRect f) (L.term1Of m r 8)⟩,
   ⟨accRect 0 8, accVal (View.readAt (Elt F) al.view (accRect 0 8).toLoadRect f) (L.term0 8)⟩,
   ⟨accRect 2 7, accVal (View.readAt (Elt F) al.view (accRect 2 7).toLoadRect f) (L.term2 7)⟩,
   ⟨accRect 1 7, accVal (View.readAt (Elt F) al.view (accRect 1 7).toLoadRect f) (L.term1Of m r 7)⟩,
   ⟨accRect 0 7, accVal (View.readAt (Elt F) al.view (accRect 0 7).toLoadRect f) (L.term0 7)⟩,
   ⟨accRect 2 6, accVal (View.readAt (Elt F) al.view (accRect 2 6).toLoadRect f) (L.term2 6)⟩,
   ⟨accRect 1 6, accVal (View.readAt (Elt F) al.view (accRect 1 6).toLoadRect f) (L.term1Of m r 6)⟩,
   ⟨accRect 0 6, accVal (View.readAt (Elt F) al.view (accRect 0 6).toLoadRect f) (L.term0 6)⟩,
   ⟨accRect 2 5, accVal (View.readAt (Elt F) al.view (accRect 2 5).toLoadRect f) (L.term2 5)⟩,
   ⟨accRect 1 5, accVal (View.readAt (Elt F) al.view (accRect 1 5).toLoadRect f) (L.term1Of m r 5)⟩,
   ⟨accRect 0 5, accVal (View.readAt (Elt F) al.view (accRect 0 5).toLoadRect f) (L.term0 5)⟩,
   ⟨accRect 2 4, accVal (View.readAt (Elt F) al.view (accRect 2 4).toLoadRect f) (L.term2 4)⟩,
   ⟨accRect 1 4, accVal (View.readAt (Elt F) al.view (accRect 1 4).toLoadRect f) (L.term1Of m r 4)⟩,
   ⟨accRect 0 4, accVal (View.readAt (Elt F) al.view (accRect 0 4).toLoadRect f) (L.term0 4)⟩,
   ⟨accRect 2 3, accVal (View.readAt (Elt F) al.view (accRect 2 3).toLoadRect f) (L.term2 3)⟩,
   ⟨accRect 1 3, accVal (View.readAt (Elt F) al.view (accRect 1 3).toLoadRect f) (L.term1Of m r 3)⟩,
   ⟨accRect 0 3, accVal (View.readAt (Elt F) al.view (accRect 0 3).toLoadRect f) (L.term0 3)⟩,
   ⟨accRect 2 2, accVal (View.readAt (Elt F) al.view (accRect 2 2).toLoadRect f) (L.term2 2)⟩,
   ⟨accRect 1 2, accVal (View.readAt (Elt F) al.view (accRect 1 2).toLoadRect f) (L.term1Of m r 2)⟩,
   ⟨accRect 0 2, accVal (View.readAt (Elt F) al.view (accRect 0 2).toLoadRect f) (L.term0 2)⟩,
   ⟨accRect 2 1, accVal (View.readAt (Elt F) al.view (accRect 2 1).toLoadRect f) (L.term2 1)⟩,
   ⟨accRect 1 1, accVal (View.readAt (Elt F) al.view (accRect 1 1).toLoadRect f) (L.term1Of m r 1)⟩,
   ⟨accRect 0 1, accVal (View.readAt (Elt F) al.view (accRect 0 1).toLoadRect f) (L.term0 1)⟩,
   ⟨accRect 2 0, accVal (View.readAt (Elt F) al.view (accRect 2 0).toLoadRect f) (L.term2 0)⟩,
   ⟨accRect 1 0, accVal (View.readAt (Elt F) al.view (accRect 1 0).toLoadRect f) (L.term1Of m r 0)⟩,
   ⟨accRect 0 0, accVal (View.readAt (Elt F) al.view (accRect 0 0).toLoadRect f) (L.term0 0)⟩]

/-- What a trip writes: to `dx`, and to the running sums `al`, where the running sums held `f`. -/
def trip (off : Fin 16 → Fin 3 → ℕ) (hoff : ∀ b a, off b a + S1x32x128.size a ≤ S1x512x2048.size a) (L : Loads F)
    (al : Memref sig .tc .vmem S3x8x2048 .f32) (f : BufTy.Contents (Elt F) al.view.ty) :
    List (View.Piece (Elt F) S1x512x2048 .bf16) × List (View.Piece (Elt F) S3x8x2048 .f32) :=
  (dxPieces off hoff L L.mu L.rstd L.gm L.gxm, accPieces al f L L.mu L.rstd)

end Cert.KernelIdeal.Body

end
-- ==== Proof.LoopLoads.lean ====
/-
  The vectors a trip of the row loops loads, cut out of the input blocks.
-/
module

public import proofs.«01_k».proof.Proof.Trip

@[expose] public section

noncomputable section

namespace Cert.KernelIdeal.Body

open Idealize.ShloMosaic Idealize.SL.Sem Cert.KernelIdeal.Gen

variable {F : FTy → Type} [FloatOps F]

/-- Channel block `b` of the modulation scale lies in its row. -/
theorem inb_ms : ∀ (b : Fin 16) (a : Fin 3), (![0, 0, 128 * b.val] : Fin 3 → ℕ) a + S1x1x128.size a ≤ S1x1x2048.size a := by decide

/-- The rows from `r` of channel block `b`. -/
def offs (r : ℕ) (b : Fin 16) : Fin 3 → ℕ := ![0, r, 128 * b.val]

/-- The rows from `r` of a scale array. -/
def offS (r : ℕ) : Fin 3 → ℕ := ![0, r, 0]

theorem inb_offs {r : ℕ} (hr : r + 32 ≤ 512) (b : Fin 16) (a : Fin 3) : offs r b a + S1x32x128.size a ≤ S1x512x2048.size a := by
  have := b.isLt
  fin_cases a <;> simp [offs, S1x32x128, S1x512x2048] <;> omega

theorem inb_offS {r : ℕ} (hr : r + 32 ≤ 512) (a : Fin 3) : offS r a + S1x32x16.size a ≤ S1x512x16.size a := by
  fin_cases a <;> simp [offS, S1x32x16, S1x512x16] <;> omega

/-- What a trip loads, its scale rectangles at `o` and its data rectangles at `off b`. -/
def loads (arg2 : Memref sig .tc .vmem S1x512x2048 .fp8e4m3) (arg3 : Memref sig .tc .vmem S1x512x16 .f32) (arg4 : Memref sig .tc .vmem S1x512x2048 .bf16) (arg5 : Memref sig .tc .vmem S1x512x2048 .fp8e5m2) (arg6 : Memref sig .tc .vmem S1x512x16 .f32) (arg7 : Memref sig .tc .vmem S1x512x2048 .fp8e5m2) (arg8 : Memref sig .tc .vmem S1x512x16 .f32) (arg9 : Memref sig .tc .vmem S1x1x2048 .f32)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)
    (o : Fin 3 → ℕ) (ho : ∀ a, o a + S1x32x16.size a ≤ S1x512x16.size a)
    (off : Fin 16 → Fin 3 → ℕ) (hoff : ∀ b a, off b a + S1x32x128.size a ≤ S1x512x2048.size a) : Loads F where
  xs := View.readAt (Elt F) arg3.view (Rect.unit o S1x32x16.size ho : Rect S1x512x16).toLoadRect X_arg3
  dys := View.readAt (Elt F) arg6.view (Rect.unit o S1x32x16.size ho : Rect S1x512x16).toLoadRect X_arg6
  dhs := View.readAt (Elt F) arg8.view (Rect.unit o S1x32x16.size ho : Rect S1x512x16).toLoadRect X_arg8
  xc b := View.readAt (Elt F) arg2.view (Rect.unit (off b) S1x32x128.size (hoff b) : Rect S1x512x2048).toLoadRect X_arg2
  dyc b := View.readAt (Elt F) arg5.view (Rect.unit (off b) S1x32x128.size (hoff b) : Rect S1x512x2048).toLoadRect X_arg5
  dhc b := View.readAt (Elt F) arg7.view (Rect.unit (off b) S1x32x128.size (hoff b) : Rect S1x512x2048).toLoadRect X_arg7
  fo b := View.readAt (Elt F) arg4.view (Rect.unit (off b) S1x32x128.size (hoff b) : Rect S1x512x2048).toLoadRect X_arg4
  ms b := View.readAt (Elt F) arg9.view (Rect.unit ![0, 0, 128 * b.val] S1x1x128.size (inb_ms b) : Rect S1x1x2048).toLoadRect X_arg9

section Loops

variable (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)

/-- What a trip loads of the rows from `r`. -/
abbrev loadsR {r : ℕ} (hr : r + 32 ≤ 512) : Loads F :=
  loads arg2 arg3 arg4 arg5 arg6 arg7 arg8 arg9 X_arg2 X_arg3 X_arg4 X_arg5 X_arg6 X_arg7 X_arg8 X_arg9 (offS r) (inb_offS hr) (offs r) (inb_offs hr)

end Loops

end Cert.KernelIdeal.Body

end
-- ==== Proof.LoopTrips.lean ====
/-
  One trip of each of the kernel's four row loops, run symbolically: what the trip stores to `dx` and to its accumulator, as
  pieces, for any trip number and any contents. The statements and scripts follow the ones the library prints for such a loop;
  they stand here because the loops' invariants (`LoopInvs.lean`) are written by hand.
-/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the kernel's frame. -/
local notation "𝕄G" => MT nD τ sig Unit (Elt F) ℕ (UR sig nD τ) ℕ

/-- What trips of loop 1 hold: the eight inputs at their contents, `dx` and the loop's accumulator at any. -/
abbrev Trip_k0_t1 (c : Dev nD) (arg2 : Memref sig .tc .vmem S1x512x2048 .fp8e4m3) (arg3 : Memref sig .tc .vmem S1x512x16 .f32) (arg4 : Memref sig .tc .vmem S1x512x2048 .bf16) (arg5 : Memref sig .tc .vmem S1x512x2048 .fp8e5m2) (arg6 : Memref sig .tc .vmem S1x512x16 .f32) (arg7 : Memref sig .tc .vmem S1x512x2048 .fp8e5m2) (arg8 : Memref sig .tc .vmem S1x512x16 .f32) (arg9 : Memref sig .tc .vmem S1x1x2048 .f32) (arg10 : Memref sig .tc .vmem S1x512x2048 .bf16) (alloca_r0 : Memref sig .tc .vmem S3x8x2048 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg10 : BufTy.Contents (Elt F) arg10.view.ty) (f_alloca_r0 : BufTy.Contents (Elt F) alloca_r0.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (alloca_r0.view.loc (c : Thread nD τ) ↦[alloca_r0.view.set]{fullShare} f_alloca_r0))

/-- One trip of loop 1: the pieces it stores to `dx` and to its accumulator, given what it finds there, with the proof that the
    trip's program stores them and keeps the inputs. -/
@[irreducible] def trip_k0_t1 (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) :
    Σ' (L_arg10 : (BufTy.Contents (Elt F) arg10.view.ty → BufTy.Contents (Elt F) alloca_r0.view.ty → List (View.Piece (Elt F) S1x512x2048 .bf16))) , { L_alloca_r0 : (BufTy.Contents (Elt F) arg10.view.ty → BufTy.Contents (Elt F) alloca_r0.view.ty → List (View.Piece (Elt F) S3x8x2048 .f32)) // ∀ (E : Set ℕ) (f_arg10 : BufTy.Contents (Elt F) arg10.view.ty) (f_alloca_r0 : BufTy.Contents (Elt F) alloca_r0.view.ty),
      Trip_k0_t1 (F := F) c arg2 arg3 arg4 arg5 arg6 arg7 arg8 arg9 arg10 alloca_r0 X_arg2 X_arg3 X_arg4 X_arg5 X_arg6 X_arg7 X_arg8 X_arg9 f_arg10 f_alloca_r0
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 k PUnit.unit)
          (fun _ => Trip_k0_t1 (F := F) c arg2 arg3 arg4 arg5 arg6 arg7 arg8 arg9 arg10 alloca_r0 X_arg2 X_arg3 X_arg4 X_arg5 X_arg6 X_arg7 X_arg8 X_arg9 (arg10.view.writes (Elt F) f_arg10 (L_arg10 f_arg10 f_alloca_r0)) (alloca_r0.view.writes (Elt F) f_alloca_r0 (L_alloca_r0 f_arg10 f_alloca_r0))) } := by
  have hk : k.val < 4 := Nat.lt_of_lt_of_le k.isLt k0_t1_abs.2.1
  refine ⟨?_, ?_, fun E f_arg10 f_alloca_r0 => ?run⟩
  case run =>
    unfold k0_t1_body
    iintro ⟨HR_arg2, HR_arg3, HR_arg4, HR_arg5, HR_arg6, HR_arg7, HR_arg8, HR_arg9, HW_arg10, HW_alloca_r0⟩
    sl_exec
    sl_step
    sl_close

/-- The pieces alone. -/
abbrev tripL_k0_t1 (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t1_loop.trips) (f_arg10 : BufTy.Contents (Elt F) arg10.view.ty) (f_alloca_r0 : BufTy.Contents (Elt F) alloca_r0.view.ty) : List (View.Piece (Elt F) S1x512x2048 .bf16) × List (View.Piece (Elt F) S3x8x2048 .f32) :=
  ((trip_k0_t1 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k).1 f_arg10 f_alloca_r0, (trip_k0_t1 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k).2.1 f_arg10 f_alloca_r0)

/-- What trips of loop 2 hold: the eight inputs at their contents, `dx` and the loop's accumulator at any. -/
abbrev Trip_k0_t2 (c : Dev nD) (arg2 : Memref sig .tc .vmem S1x512x2048 .fp8e4m3) (arg3 : Memref sig .tc .vmem S1x512x16 .f32) (arg4 : Memref sig .tc .vmem S1x512x2048 .bf16) (arg5 : Memref sig .tc .vmem S1x512x2048 .fp8e5m2) (arg6 : Memref sig .tc .vmem S1x512x16 .f32) (arg7 : Memref sig .tc .vmem S1x512x2048 .fp8e5m2) (arg8 : Memref sig .tc .vmem S1x512x16 .f32) (arg9 : Memref sig .tc .vmem S1x1x2048 .f32) (arg10 : Memref sig .tc .vmem S1x512x2048 .bf16) (alloca_r1 : Memref sig .tc .vmem S3x8x2048 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg10 : BufTy.Contents (Elt F) arg10.view.ty) (f_alloca_r1 : BufTy.Contents (Elt F) alloca_r1.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (alloca_r1.view.loc (c : Thread nD τ) ↦[alloca_r1.view.set]{fullShare} f_alloca_r1))

/-- One trip of loop 2: the pieces it stores to `dx` and to its accumulator, given what it finds there, with the proof that the
    trip's program stores them and keeps the inputs. -/
@[irreducible] def trip_k0_t2 (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t2_loop.trips) :
    Σ' (L_arg10 : (BufTy.Contents (Elt F) arg10.view.ty → BufTy.Contents (Elt F) alloca_r1.view.ty → List (View.Piece (Elt F) S1x512x2048 .bf16))) , { L_alloca_r1 : (BufTy.Contents (Elt F) arg10.view.ty → BufTy.Contents (Elt F) alloca_r1.view.ty → List (View.Piece (Elt F) S3x8x2048 .f32)) // ∀ (E : Set ℕ) (f_arg10 : BufTy.Contents (Elt F) arg10.view.ty) (f_alloca_r1 : BufTy.Contents (Elt F) alloca_r1.view.ty),
      Trip_k0_t2 (F := F) c arg2 arg3 arg4 arg5 arg6 arg7 arg8 arg9 arg10 alloca_r1 X_arg2 X_arg3 X_arg4 X_arg5 X_arg6 X_arg7 X_arg8 X_arg9 f_arg10 f_alloca_r1
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 k PUnit.unit)
          (fun _ => Trip_k0_t2 (F := F) c arg2 arg3 arg4 arg5 arg6 arg7 arg8 arg9 arg10 alloca_r1 X_arg2 X_arg3 X_arg4 X_arg5 X_arg6 X_arg7 X_arg8 X_arg9 (arg10.view.writes (Elt F) f_arg10 (L_arg10 f_arg10 f_alloca_r1)) (alloca_r1.view.writes (Elt F) f_alloca_r1 (L_alloca_r1 f_arg10 f_alloca_r1))) } := by
  have hk : k.val < 4 := Nat.lt_of_lt_of_le k.isLt k0_t2_abs.2.1
  refine ⟨?_, ?_, fun E f_arg10 f_alloca_r1 => ?run⟩
  case run =>
    unfold k0_t2_body
    iintro ⟨HR_arg2, HR_arg3, HR_arg4, HR_arg5, HR_arg6, HR_arg7, HR_arg8, HR_arg9, HW_arg10, HW_alloca_r1⟩
    sl_exec
    sl_step
    sl_close

/-- The pieces alone. -/
abbrev tripL_k0_t2 (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t2_loop.trips) (f_arg10 : BufTy.Contents (Elt F) arg10.view.ty) (f_alloca_r1 : BufTy.Contents (Elt F) alloca_r1.view.ty) : List (View.Piece (Elt F) S1x512x2048 .bf16) × List (View.Piece (Elt F) S3x8x2048 .f32) :=
  ((trip_k0_t2 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k).1 f_arg10 f_alloca_r1, (trip_k0_t2 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k).2.1 f_arg10 f_alloca_r1)

/-- What trips of loop 3 hold: the eight inputs at their contents, `dx` and the loop's accumulator at any. -/
abbrev Trip_k0_t3 (c : Dev nD) (arg2 : Memref sig .tc .vmem S1x512x2048 .fp8e4m3) (arg3 : Memref sig .tc .vmem S1x512x16 .f32) (arg4 : Memref sig .tc .vmem S1x512x2048 .bf16) (arg5 : Memref sig .tc .vmem S1x512x2048 .fp8e5m2) (arg6 : Memref sig .tc .vmem S1x512x16 .f32) (arg7 : Memref sig .tc .vmem S1x512x2048 .fp8e5m2) (arg8 : Memref sig .tc .vmem S1x512x16 .f32) (arg9 : Memref sig .tc .vmem S1x1x2048 .f32) (arg10 : Memref sig .tc .vmem S1x512x2048 .bf16) (alloca_r2 : Memref sig .tc .vmem S3x8x2048 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg10 : BufTy.Contents (Elt F) arg10.view.ty) (f_alloca_r2 : BufTy.Contents (Elt F) alloca_r2.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (alloca_r2.view.loc (c : Thread nD τ) ↦[alloca_r2.view.set]{fullShare} f_alloca_r2))

/-- One trip of loop 3: the pieces it stores to `dx` and to its accumulator, given what it finds there, with the proof that the
    trip's program stores them and keeps the inputs. -/
@[irreducible] def trip_k0_t3 (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (v30_r1 : FVec F S1x2048 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t3_loop.trips) :
    Σ' (L_arg10 : (BufTy.Contents (Elt F) arg10.view.ty → BufTy.Contents (Elt F) alloca_r2.view.ty → List (View.Piece (Elt F) S1x512x2048 .bf16))) , { L_alloca_r2 : (BufTy.Contents (Elt F) arg10.view.ty → BufTy.Contents (Elt F) alloca_r2.view.ty → List (View.Piece (Elt F) S3x8x2048 .f32)) // ∀ (E : Set ℕ) (f_arg10 : BufTy.Contents (Elt F) arg10.view.ty) (f_alloca_r2 : BufTy.Contents (Elt F) alloca_r2.view.ty),
      Trip_k0_t3 (F := F) c arg2 arg3 arg4 arg5 arg6 arg7 arg8 arg9 arg10 alloca_r2 X_arg2 X_arg3 X_arg4 X_arg5 X_arg6 X_arg7 X_arg8 X_arg9 f_arg10 f_alloca_r2
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v30_r1 k PUnit.unit)
          (fun _ => Trip_k0_t3 (F := F) c arg2 arg3 arg4 arg5 arg6 arg7 arg8 arg9 arg10 alloca_r2 X_arg2 X_arg3 X_arg4 X_arg5 X_arg6 X_arg7 X_arg8 X_arg9 (arg10.view.writes (Elt F) f_arg10 (L_arg10 f_arg10 f_alloca_r2)) (alloca_r2.view.writes (Elt F) f_alloca_r2 (L_alloca_r2 f_arg10 f_alloca_r2))) } := by
  have hk : k.val < 4 := Nat.lt_of_lt_of_le k.isLt k0_t3_abs.2.1
  refine ⟨?_, ?_, fun E f_arg10 f_alloca_r2 => ?run⟩
  case run =>
    unfold k0_t3_body
    iintro ⟨HR_arg2, HR_arg3, HR_arg4, HR_arg5, HR_arg6, HR_arg7, HR_arg8, HR_arg9, HW_arg10, HW_alloca_r2⟩
    sl_exec
    sl_step
    sl_close

/-- The pieces alone. -/
abbrev tripL_k0_t3 (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (v30_r1 : FVec F S1x2048 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t3_loop.trips) (f_arg10 : BufTy.Contents (Elt F) arg10.view.ty) (f_alloca_r2 : BufTy.Contents (Elt F) alloca_r2.view.ty) : List (View.Piece (Elt F) S1x512x2048 .bf16) × List (View.Piece (Elt F) S3x8x2048 .f32) :=
  ((trip_k0_t3 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v30_r1 X_arg2 X_arg3 X_arg4 X_arg5 X_arg6 X_arg7 X_arg8 X_arg9 k).1 f_arg10 f_alloca_r2, (trip_k0_t3 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v30_r1 X_arg2 X_arg3 X_arg4 X_arg5 X_arg6 X_arg7 X_arg8 X_arg9 k).2.1 f_arg10 f_alloca_r2)

/-- What trips of loop 4 hold: the eight inputs at their contents, `dx` and the loop's accumulator at any. -/
abbrev Trip_k0_t4 (c : Dev nD) (arg2 : Memref sig .tc .vmem S1x512x2048 .fp8e4m3) (arg3 : Memref sig .tc .vmem S1x512x16 .f32) (arg4 : Memref sig .tc .vmem S1x512x2048 .bf16) (arg5 : Memref sig .tc .vmem S1x512x2048 .fp8e5m2) (arg6 : Memref sig .tc .vmem S1x512x16 .f32) (arg7 : Memref sig .tc .vmem S1x512x2048 .fp8e5m2) (arg8 : Memref sig .tc .vmem S1x512x16 .f32) (arg9 : Memref sig .tc .vmem S1x1x2048 .f32) (arg10 : Memref sig .tc .vmem S1x512x2048 .bf16) (alloca_r3 : Memref sig .tc .vmem S3x8x2048 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (f_arg10 : BufTy.Contents (Elt F) arg10.view.ty) (f_alloca_r3 : BufTy.Contents (Elt F) alloca_r3.view.ty) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} f_arg10) ∗ (alloca_r3.view.loc (c : Thread nD τ) ↦[alloca_r3.view.set]{fullShare} f_alloca_r3))

/-- One trip of loop 4: the pieces it stores to `dx` and to its accumulator, given what it finds there, with the proof that the
    trip's program stores them and keeps the inputs. -/
@[irreducible] def trip_k0_t4 (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (v37_r2 : FVec F S1x2048 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t4_loop.trips) :
    Σ' (L_arg10 : (BufTy.Contents (Elt F) arg10.view.ty → BufTy.Contents (Elt F) alloca_r3.view.ty → List (View.Piece (Elt F) S1x512x2048 .bf16))) , { L_alloca_r3 : (BufTy.Contents (Elt F) arg10.view.ty → BufTy.Contents (Elt F) alloca_r3.view.ty → List (View.Piece (Elt F) S3x8x2048 .f32)) // ∀ (E : Set ℕ) (f_arg10 : BufTy.Contents (Elt F) arg10.view.ty) (f_alloca_r3 : BufTy.Contents (Elt F) alloca_r3.view.ty),
      Trip_k0_t4 (F := F) c arg2 arg3 arg4 arg5 arg6 arg7 arg8 arg9 arg10 alloca_r3 X_arg2 X_arg3 X_arg4 X_arg5 X_arg6 X_arg7 X_arg8 X_arg9 f_arg10 f_alloca_r3
      ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v37_r2 k PUnit.unit)
          (fun _ => Trip_k0_t4 (F := F) c arg2 arg3 arg4 arg5 arg6 arg7 arg8 arg9 arg10 alloca_r3 X_arg2 X_arg3 X_arg4 X_arg5 X_arg6 X_arg7 X_arg8 X_arg9 (arg10.view.writes (Elt F) f_arg10 (L_arg10 f_arg10 f_alloca_r3)) (alloca_r3.view.writes (Elt F) f_alloca_r3 (L_alloca_r3 f_arg10 f_alloca_r3))) } := by
  have hk : k.val < 4 := Nat.lt_of_lt_of_le k.isLt k0_t4_abs.2.1
  refine ⟨?_, ?_, fun E f_arg10 f_alloca_r3 => ?run⟩
  case run =>
    unfold k0_t4_body
    iintro ⟨HR_arg2, HR_arg3, HR_arg4, HR_arg5, HR_arg6, HR_arg7, HR_arg8, HR_arg9, HW_arg10, HW_alloca_r3⟩
    sl_exec
    sl_step
    sl_close

/-- The pieces alone. -/
abbrev tripL_k0_t4 (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (v37_r2 : FVec F S1x2048 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (k : Fin k0_t4_loop.trips) (f_arg10 : BufTy.Contents (Elt F) arg10.view.ty) (f_alloca_r3 : BufTy.Contents (Elt F) alloca_r3.view.ty) : List (View.Piece (Elt F) S1x512x2048 .bf16) × List (View.Piece (Elt F) S3x8x2048 .f32) :=
  ((trip_k0_t4 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v37_r2 X_arg2 X_arg3 X_arg4 X_arg5 X_arg6 X_arg7 X_arg8 X_arg9 k).1 f_arg10 f_alloca_r3, (trip_k0_t4 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v37_r2 X_arg2 X_arg3 X_arg4 X_arg5 X_arg6 X_arg7 X_arg8 X_arg9 k).2.1 f_arg10 f_alloca_r3)

end Cert.KernelIdeal.Gen

end
-- ==== Proof.LoopEq1.lean ====
/-
  What loop 1 of the program stores, in the vocabulary of `Trip.lean`: its trip `k` is the body of `Trip.lean` on the
  32 rows from `32 k + 0` of the input blocks.
-/
module

public import proofs.«01_k».proof.Proof.LoopLoads
public import proofs.«01_k».proof.Proof.LoopTrips

@[expose] public section

noncomputable section

namespace Cert.KernelIdeal.Body

open Idealize.ShloMosaic Idealize.SL.Sem Cert.KernelIdeal.Gen

variable {F : FTy → Type} [FloatOps F]

section Loops

variable (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)

/-- The rectangles of loop 1. -/
def off1 (k : Fin k0_t1_loop.trips) : Fin 16 → Fin 3 → ℕ :=
  ![k0_off2 k, k0_off3 k, k0_off4 k, k0_off5 k, k0_off6 k, k0_off7 k, k0_off8 k, k0_off9 k, k0_off10 k, k0_off11 k, k0_off12 k, k0_off13 k, k0_off14 k, k0_off15 k, k0_off16 k, k0_off17 k]

theorem off1_eq (k : Fin k0_t1_loop.trips) : off1 k = offs (32 * k.val + 0) := by
  funext b
  fin_cases b
  exacts [k0_off2_eq k, k0_off3_eq k, k0_off4_eq k, k0_off5_eq k, k0_off6_eq k, k0_off7_eq k, k0_off8_eq k, k0_off9_eq k, k0_off10_eq k, k0_off11_eq k, k0_off12_eq k, k0_off13_eq k, k0_off14_eq k, k0_off15_eq k, k0_off16_eq k, k0_off17_eq k]

theorem row1 (k : Fin k0_t1_loop.trips) : 32 * k.val + 0 + 32 ≤ 512 := by
  have : k.val < 4 := Nat.lt_of_lt_of_le k.isLt k0_t1_abs.2.1
  omega

theorem inb1 (k : Fin k0_t1_loop.trips) (b : Fin 16) (a : Fin 3) : off1 k b a + S1x32x128.size a ≤ S1x512x2048.size a := by
  rw [off1_eq]; exact inb_offs (row1 k) b a

theorem inbS1 (k : Fin k0_t1_loop.trips) (a : Fin 3) : k0_off1 k a + S1x32x16.size a ≤ S1x512x16.size a := by
  rw [k0_off1_eq]; exact inb_offS (row1 k) a

section
variable (k : Fin k0_t1_loop.trips)

/-- Loop 1's loads, with the program's own rectangles. -/
abbrev loads1 : Loads F := loads arg2 arg3 arg4 arg5 arg6 arg7 arg8 arg9 X_arg2 X_arg3 X_arg4 X_arg5 X_arg6 X_arg7 X_arg8 X_arg9 (k0_off1 k) (inbS1 k) (off1 k) (inb1 k)

theorem mu1 : trip_k0_t1.sl.r_12 (F := F) arg2 arg3 X_arg2 X_arg3 k = (loads1 arg2 arg3 arg4 arg5 arg6 arg7 arg8 arg9 X_arg2 X_arg3 X_arg4 X_arg5 X_arg6 X_arg7 X_arg8 X_arg9 k).mu := (rfl)

theorem rstd1 : trip_k0_t1.sl.r_19 (F := F) arg2 arg3 X_arg2 X_arg3 k
    = (loads1 arg2 arg3 arg4 arg5 arg6 arg7 arg8 arg9 X_arg2 X_arg3 X_arg4 X_arg5 X_arg6 X_arg7 X_arg8 X_arg9 k).rstdOf (trip_k0_t1.sl.r_12 arg2 arg3 X_arg2 X_arg3 k) := (rfl)

attribute [local irreducible] trip_k0_t1.sl.r_12 trip_k0_t1.sl.r_19 k0_off1 k0_off2 k0_off3 k0_off4 k0_off5 k0_off6 k0_off7 k0_off8 k0_off9 k0_off10 k0_off11 k0_off12 k0_off13 k0_off14 k0_off15 k0_off16 k0_off17

theorem gm1 : trip_k0_t1.sl.r_95 (F := F) arg7 arg8 arg9 X_arg7 X_arg8 X_arg9 k = (loads1 arg2 arg3 arg4 arg5 arg6 arg7 arg8 arg9 X_arg2 X_arg3 X_arg4 X_arg5 X_arg6 X_arg7 X_arg8 X_arg9 k).gm := (rfl)

set_option maxHeartbeats 4000000 in
theorem gxm1 : trip_k0_t1.sl.r_96 (F := F) arg2 arg3 arg7 arg8 arg9 X_arg2 X_arg3 X_arg7 X_arg8 X_arg9 k
    = (loads1 arg2 arg3 arg4 arg5 arg6 arg7 arg8 arg9 X_arg2 X_arg3 X_arg4 X_arg5 X_arg6 X_arg7 X_arg8 X_arg9 k).gxmOf (trip_k0_t1.sl.r_12 arg2 arg3 X_arg2 X_arg3 k) (trip_k0_t1.sl.r_19 arg2 arg3 X_arg2 X_arg3 k) := (rfl)

attribute [local irreducible] trip_k0_t1.sl.r_95 trip_k0_t1.sl.r_96

end

set_option maxHeartbeats 40000000 in
/-- Loop 1's trip, with the program's own rectangles. -/
theorem tripL1_eq' (k : Fin k0_t1_loop.trips) (f_arg10 : BufTy.Contents (Elt F) arg10.view.ty)
    (f_al : BufTy.Contents (Elt F) alloca_r0.view.ty) :
    tripL_k0_t1 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k f_arg10 f_al
      = (trip (off1 k) (inb1 k) (loads1 arg2 arg3 arg4 arg5 arg6 arg7 arg8 arg9 X_arg2 X_arg3 X_arg4 X_arg5 X_arg6 X_arg7 X_arg8 X_arg9 k) alloca_r0 f_al) := by
  rw [trip, Loads.gxm, Loads.rstd, ← gm1, ← mu1, ← rstd1, ← gxm1]
  unfold tripL_k0_t1 trip_k0_t1
  exact (rfl)

/-- Loop 1's trip `k` is the body on the 32 rows from `32 k + 0`. -/
theorem tripL1_eq (k : Fin k0_t1_loop.trips) (f_arg10 : BufTy.Contents (Elt F) arg10.view.ty)
    (f_al : BufTy.Contents (Elt F) alloca_r0.view.ty) :
    tripL_k0_t1 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k f_arg10 f_al
      = trip (offs (32 * k.val + 0)) (inb_offs (row1 k)) (loadsR arg2 arg3 arg4 arg5 arg6 arg7 arg8 arg9 X_arg2 X_arg3 X_arg4 X_arg5 X_arg6 X_arg7 X_arg8 X_arg9 (row1 k)) alloca_r0 f_al := by
  rw [tripL1_eq']
  have e₁ := off1_eq k
  have e₂ : k0_off1 k = offS (32 * k.val + 0) := k0_off1_eq k
  have key : ∀ (o : Fin 3 → ℕ) (ho : ∀ a, o a + S1x32x16.size a ≤ S1x512x16.size a)
      (off : Fin 16 → Fin 3 → ℕ) (hoff : ∀ b a, off b a + S1x32x128.size a ≤ S1x512x2048.size a),
      off = offs (32 * k.val + 0) → o = offS (32 * k.val + 0) →
      trip off hoff (loads arg2 arg3 arg4 arg5 arg6 arg7 arg8 arg9 X_arg2 X_arg3 X_arg4 X_arg5 X_arg6 X_arg7 X_arg8 X_arg9 o ho off hoff) alloca_r0 f_al
      = trip (offs (32 * k.val + 0)) (inb_offs (row1 k)) (loadsR arg2 arg3 arg4 arg5 arg6 arg7 arg8 arg9 X_arg2 X_arg3 X_arg4 X_arg5 X_arg6 X_arg7 X_arg8 X_arg9 (row1 k)) alloca_r0 f_al := by
    rintro o ho off hoff rfl rfl
    rfl
  exact key _ _ _ _ e₁ e₂

end Loops

end Cert.KernelIdeal.Body

end
-- ==== Proof.LoopEq2.lean ====
/-
  What loop 2 of the program stores, in the vocabulary of `Trip.lean`: its trip `k` is the body of `Trip.lean` on the
  32 rows from `32 k + 128` of the input blocks.
-/
module

public import proofs.«01_k».proof.Proof.LoopLoads
public import proofs.«01_k».proof.Proof.LoopTrips

@[expose] public section

noncomputable section

namespace Cert.KernelIdeal.Body

open Idealize.ShloMosaic Idealize.SL.Sem Cert.KernelIdeal.Gen

variable {F : FTy → Type} [FloatOps F]

section Loops

variable (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)

/-- The rectangles of loop 2. -/
def off2 (k : Fin k0_t2_loop.trips) : Fin 16 → Fin 3 → ℕ :=
  ![k0_off19 k, k0_off20 k, k0_off21 k, k0_off22 k, k0_off23 k, k0_off24 k, k0_off25 k, k0_off26 k, k0_off27 k, k0_off28 k, k0_off29 k, k0_off30 k, k0_off31 k, k0_off32 k, k0_off33 k, k0_off34 k]

theorem off2_eq (k : Fin k0_t2_loop.trips) : off2 k = offs (32 * k.val + 128) := by
  funext b
  fin_cases b
  exacts [k0_off19_eq k, k0_off20_eq k, k0_off21_eq k, k0_off22_eq k, k0_off23_eq k, k0_off24_eq k, k0_off25_eq k, k0_off26_eq k, k0_off27_eq k, k0_off28_eq k, k0_off29_eq k, k0_off30_eq k, k0_off31_eq k, k0_off32_eq k, k0_off33_eq k, k0_off34_eq k]

theorem row2 (k : Fin k0_t2_loop.trips) : 32 * k.val + 128 + 32 ≤ 512 := by
  have : k.val < 4 := Nat.lt_of_lt_of_le k.isLt k0_t2_abs.2.1
  omega

theorem inb2 (k : Fin k0_t2_loop.trips) (b : Fin 16) (a : Fin 3) : off2 k b a + S1x32x128.size a ≤ S1x512x2048.size a := by
  rw [off2_eq]; exact inb_offs (row2 k) b a

theorem inbS2 (k : Fin k0_t2_loop.trips) (a : Fin 3) : k0_off18 k a + S1x32x16.size a ≤ S1x512x16.size a := by
  rw [k0_off18_eq]; exact inb_offS (row2 k) a

section
variable (k : Fin k0_t2_loop.trips)

/-- Loop 2's loads, with the program's own rectangles. -/
abbrev loads2 : Loads F := loads arg2 arg3 arg4 arg5 arg6 arg7 arg8 arg9 X_arg2 X_arg3 X_arg4 X_arg5 X_arg6 X_arg7 X_arg8 X_arg9 (k0_off18 k) (inbS2 k) (off2 k) (inb2 k)

theorem mu2 : trip_k0_t2.sl.r_12 (F := F) arg2 arg3 X_arg2 X_arg3 k = (loads2 arg2 arg3 arg4 arg5 arg6 arg7 arg8 arg9 X_arg2 X_arg3 X_arg4 X_arg5 X_arg6 X_arg7 X_arg8 X_arg9 k).mu := (rfl)

theorem rstd2 : trip_k0_t2.sl.r_19 (F := F) arg2 arg3 X_arg2 X_arg3 k
    = (loads2 arg2 arg3 arg4 arg5 arg6 arg7 arg8 arg9 X_arg2 X_arg3 X_arg4 X_arg5 X_arg6 X_arg7 X_arg8 X_arg9 k).rstdOf (trip_k0_t2.sl.r_12 arg2 arg3 X_arg2 X_arg3 k) := (rfl)

attribute [local irreducible] trip_k0_t2.sl.r_12 trip_k0_t2.sl.r_19 k0_off18 k0_off19 k0_off20 k0_off21 k0_off22 k0_off23 k0_off24 k0_off25 k0_off26 k0_off27 k0_off28 k0_off29 k0_off30 k0_off31 k0_off32 k0_off33 k0_off34

theorem gm2 : trip_k0_t2.sl.r_95 (F := F) arg7 arg8 arg9 X_arg7 X_arg8 X_arg9 k = (loads2 arg2 arg3 arg4 arg5 arg6 arg7 arg8 arg9 X_arg2 X_arg3 X_arg4 X_arg5 X_arg6 X_arg7 X_arg8 X_arg9 k).gm := (rfl)

set_option maxHeartbeats 4000000 in
theorem gxm2 : trip_k0_t2.sl.r_96 (F := F) arg2 arg3 arg7 arg8 arg9 X_arg2 X_arg3 X_arg7 X_arg8 X_arg9 k
    = (loads2 arg2 arg3 arg4 arg5 arg6 arg7 arg8 arg9 X_arg2 X_arg3 X_arg4 X_arg5 X_arg6 X_arg7 X_arg8 X_arg9 k).gxmOf (trip_k0_t2.sl.r_12 arg2 arg3 X_arg2 X_arg3 k) (trip_k0_t2.sl.r_19 arg2 arg3 X_arg2 X_arg3 k) := (rfl)

attribute [local irreducible] trip_k0_t2.sl.r_95 trip_k0_t2.sl.r_96

end

set_option maxHeartbeats 40000000 in
/-- Loop 2's trip, with the program's own rectangles. -/
theorem tripL2_eq' (k : Fin k0_t2_loop.trips) (f_arg10 : BufTy.Contents (Elt F) arg10.view.ty)
    (f_al : BufTy.Contents (Elt F) alloca_r1.view.ty) :
    tripL_k0_t2 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k f_arg10 f_al
      = (trip (off2 k) (inb2 k) (loads2 arg2 arg3 arg4 arg5 arg6 arg7 arg8 arg9 X_arg2 X_arg3 X_arg4 X_arg5 X_arg6 X_arg7 X_arg8 X_arg9 k) alloca_r1 f_al) := by
  rw [trip, Loads.gxm, Loads.rstd, ← gm2, ← mu2, ← rstd2, ← gxm2]
  unfold tripL_k0_t2 trip_k0_t2
  exact (rfl)

/-- Loop 2's trip `k` is the body on the 32 rows from `32 k + 128`. -/
theorem tripL2_eq (k : Fin k0_t2_loop.trips) (f_arg10 : BufTy.Contents (Elt F) arg10.view.ty)
    (f_al : BufTy.Contents (Elt F) alloca_r1.view.ty) :
    tripL_k0_t2 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k f_arg10 f_al
      = trip (offs (32 * k.val + 128)) (inb_offs (row2 k)) (loadsR arg2 arg3 arg4 arg5 arg6 arg7 arg8 arg9 X_arg2 X_arg3 X_arg4 X_arg5 X_arg6 X_arg7 X_arg8 X_arg9 (row2 k)) alloca_r1 f_al := by
  rw [tripL2_eq']
  have e₁ := off2_eq k
  have e₂ : k0_off18 k = offS (32 * k.val + 128) := k0_off18_eq k
  have key : ∀ (o : Fin 3 → ℕ) (ho : ∀ a, o a + S1x32x16.size a ≤ S1x512x16.size a)
      (off : Fin 16 → Fin 3 → ℕ) (hoff : ∀ b a, off b a + S1x32x128.size a ≤ S1x512x2048.size a),
      off = offs (32 * k.val + 128) → o = offS (32 * k.val + 128) →
      trip off hoff (loads arg2 arg3 arg4 arg5 arg6 arg7 arg8 arg9 X_arg2 X_arg3 X_arg4 X_arg5 X_arg6 X_arg7 X_arg8 X_arg9 o ho off hoff) alloca_r1 f_al
      = trip (offs (32 * k.val + 128)) (inb_offs (row2 k)) (loadsR arg2 arg3 arg4 arg5 arg6 arg7 arg8 arg9 X_arg2 X_arg3 X_arg4 X_arg5 X_arg6 X_arg7 X_arg8 X_arg9 (row2 k)) alloca_r1 f_al := by
    rintro o ho off hoff rfl rfl
    rfl
  exact key _ _ _ _ e₁ e₂

end Loops

end Cert.KernelIdeal.Body

end
-- ==== Proof.LoopEq3.lean ====
/-
  What loop 3 of the program stores, in the vocabulary of `Trip.lean`: its trip `k` is the body of `Trip.lean` on the
  32 rows from `32 k + 256` of the input blocks.
-/
module

public import proofs.«01_k».proof.Proof.LoopLoads
public import proofs.«01_k».proof.Proof.LoopTrips

@[expose] public section

noncomputable section

namespace Cert.KernelIdeal.Body

open Idealize.ShloMosaic Idealize.SL.Sem Cert.KernelIdeal.Gen

variable {F : FTy → Type} [FloatOps F]

section Loops

variable (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)

/-- The rectangles of loop 3. -/
def off3 (k : Fin k0_t3_loop.trips) : Fin 16 → Fin 3 → ℕ :=
  ![k0_off36 k, k0_off37 k, k0_off38 k, k0_off39 k, k0_off40 k, k0_off41 k, k0_off42 k, k0_off43 k, k0_off44 k, k0_off45 k, k0_off46 k, k0_off47 k, k0_off48 k, k0_off49 k, k0_off50 k, k0_off51 k]

theorem off3_eq (k : Fin k0_t3_loop.trips) : off3 k = offs (32 * k.val + 256) := by
  funext b
  fin_cases b
  exacts [k0_off36_eq k, k0_off37_eq k, k0_off38_eq k, k0_off39_eq k, k0_off40_eq k, k0_off41_eq k, k0_off42_eq k, k0_off43_eq k, k0_off44_eq k, k0_off45_eq k, k0_off46_eq k, k0_off47_eq k, k0_off48_eq k, k0_off49_eq k, k0_off50_eq k, k0_off51_eq k]

theorem row3 (k : Fin k0_t3_loop.trips) : 32 * k.val + 256 + 32 ≤ 512 := by
  have : k.val < 4 := Nat.lt_of_lt_of_le k.isLt k0_t3_abs.2.1
  omega

theorem inb3 (k : Fin k0_t3_loop.trips) (b : Fin 16) (a : Fin 3) : off3 k b a + S1x32x128.size a ≤ S1x512x2048.size a := by
  rw [off3_eq]; exact inb_offs (row3 k) b a

theorem inbS3 (k : Fin k0_t3_loop.trips) (a : Fin 3) : k0_off35 k a + S1x32x16.size a ≤ S1x512x16.size a := by
  rw [k0_off35_eq]; exact inb_offS (row3 k) a

section
variable (k : Fin k0_t3_loop.trips)

/-- Loop 3's loads, with the program's own rectangles. -/
abbrev loads3 : Loads F := loads arg2 arg3 arg4 arg5 arg6 arg7 arg8 arg9 X_arg2 X_arg3 X_arg4 X_arg5 X_arg6 X_arg7 X_arg8 X_arg9 (k0_off35 k) (inbS3 k) (off3 k) (inb3 k)

theorem mu3 : trip_k0_t3.sl.r_12 (F := F) arg2 arg3 X_arg2 X_arg3 k = (loads3 arg2 arg3 arg4 arg5 arg6 arg7 arg8 arg9 X_arg2 X_arg3 X_arg4 X_arg5 X_arg6 X_arg7 X_arg8 X_arg9 k).mu := (rfl)

theorem rstd3 : trip_k0_t3.sl.r_19 (F := F) arg2 arg3 X_arg2 X_arg3 k
    = (loads3 arg2 arg3 arg4 arg5 arg6 arg7 arg8 arg9 X_arg2 X_arg3 X_arg4 X_arg5 X_arg6 X_arg7 X_arg8 X_arg9 k).rstdOf (trip_k0_t3.sl.r_12 arg2 arg3 X_arg2 X_arg3 k) := (rfl)

attribute [local irreducible] trip_k0_t3.sl.r_12 trip_k0_t3.sl.r_19 k0_off35 k0_off36 k0_off37 k0_off38 k0_off39 k0_off40 k0_off41 k0_off42 k0_off43 k0_off44 k0_off45 k0_off46 k0_off47 k0_off48 k0_off49 k0_off50 k0_off51

theorem gm3 : trip_k0_t3.sl.r_95 (F := F) arg7 arg8 arg9 X_arg7 X_arg8 X_arg9 k = (loads3 arg2 arg3 arg4 arg5 arg6 arg7 arg8 arg9 X_arg2 X_arg3 X_arg4 X_arg5 X_arg6 X_arg7 X_arg8 X_arg9 k).gm := (rfl)

set_option maxHeartbeats 4000000 in
theorem gxm3 : trip_k0_t3.sl.r_96 (F := F) arg2 arg3 arg7 arg8 arg9 X_arg2 X_arg3 X_arg7 X_arg8 X_arg9 k
    = (loads3 arg2 arg3 arg4 arg5 arg6 arg7 arg8 arg9 X_arg2 X_arg3 X_arg4 X_arg5 X_arg6 X_arg7 X_arg8 X_arg9 k).gxmOf (trip_k0_t3.sl.r_12 arg2 arg3 X_arg2 X_arg3 k) (trip_k0_t3.sl.r_19 arg2 arg3 X_arg2 X_arg3 k) := (rfl)

attribute [local irreducible] trip_k0_t3.sl.r_95 trip_k0_t3.sl.r_96

end

set_option maxHeartbeats 40000000 in
/-- Loop 3's trip, with the program's own rectangles. -/
theorem tripL3_eq' (v30_r1 : FVec F S1x2048 .f32) (k : Fin k0_t3_loop.trips) (f_arg10 : BufTy.Contents (Elt F) arg10.view.ty)
    (f_al : BufTy.Contents (Elt F) alloca_r2.view.ty) :
    tripL_k0_t3 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v30_r1 X_arg2 X_arg3 X_arg4 X_arg5 X_arg6 X_arg7 X_arg8 X_arg9 k f_arg10 f_al
      = (trip (off3 k) (inb3 k) (loads3 arg2 arg3 arg4 arg5 arg6 arg7 arg8 arg9 X_arg2 X_arg3 X_arg4 X_arg5 X_arg6 X_arg7 X_arg8 X_arg9 k) alloca_r2 f_al) := by
  rw [trip, Loads.gxm, Loads.rstd, ← gm3, ← mu3, ← rstd3, ← gxm3]
  unfold tripL_k0_t3 trip_k0_t3
  exact (rfl)

/-- Loop 3's trip `k` is the body on the 32 rows from `32 k + 256`. -/
theorem tripL3_eq (v30_r1 : FVec F S1x2048 .f32) (k : Fin k0_t3_loop.trips) (f_arg10 : BufTy.Contents (Elt F) arg10.view.ty)
    (f_al : BufTy.Contents (Elt F) alloca_r2.view.ty) :
    tripL_k0_t3 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v30_r1 X_arg2 X_arg3 X_arg4 X_arg5 X_arg6 X_arg7 X_arg8 X_arg9 k f_arg10 f_al
      = trip (offs (32 * k.val + 256)) (inb_offs (row3 k)) (loadsR arg2 arg3 arg4 arg5 arg6 arg7 arg8 arg9 X_arg2 X_arg3 X_arg4 X_arg5 X_arg6 X_arg7 X_arg8 X_arg9 (row3 k)) alloca_r2 f_al := by
  rw [tripL3_eq']
  have e₁ := off3_eq k
  have e₂ : k0_off35 k = offS (32 * k.val + 256) := k0_off35_eq k
  have key : ∀ (o : Fin 3 → ℕ) (ho : ∀ a, o a + S1x32x16.size a ≤ S1x512x16.size a)
      (off : Fin 16 → Fin 3 → ℕ) (hoff : ∀ b a, off b a + S1x32x128.size a ≤ S1x512x2048.size a),
      off = offs (32 * k.val + 256) → o = offS (32 * k.val + 256) →
      trip off hoff (loads arg2 arg3 arg4 arg5 arg6 arg7 arg8 arg9 X_arg2 X_arg3 X_arg4 X_arg5 X_arg6 X_arg7 X_arg8 X_arg9 o ho off hoff) alloca_r2 f_al
      = trip (offs (32 * k.val + 256)) (inb_offs (row3 k)) (loadsR arg2 arg3 arg4 arg5 arg6 arg7 arg8 arg9 X_arg2 X_arg3 X_arg4 X_arg5 X_arg6 X_arg7 X_arg8 X_arg9 (row3 k)) alloca_r2 f_al := by
    rintro o ho off hoff rfl rfl
    rfl
  exact key _ _ _ _ e₁ e₂

end Loops

end Cert.KernelIdeal.Body

end
-- ==== Proof.LoopEq4.lean ====
/-
  What loop 4 of the program stores, in the vocabulary of `Trip.lean`: its trip `k` is the body of `Trip.lean` on the
  32 rows from `32 k + 384` of the input blocks.
-/
module

public import proofs.«01_k».proof.Proof.LoopLoads
public import proofs.«01_k».proof.Proof.LoopTrips

@[expose] public section

noncomputable section

namespace Cert.KernelIdeal.Body

open Idealize.ShloMosaic Idealize.SL.Sem Cert.KernelIdeal.Gen

variable {F : FTy → Type} [FloatOps F]

section Loops

variable (𝒱 : Variants) (c : Dev nD) (bd : Option 𝒱.V) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole)
  (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)

/-- The rectangles of loop 4. -/
def off4 (k : Fin k0_t4_loop.trips) : Fin 16 → Fin 3 → ℕ :=
  ![k0_off53 k, k0_off54 k, k0_off55 k, k0_off56 k, k0_off57 k, k0_off58 k, k0_off59 k, k0_off60 k, k0_off61 k, k0_off62 k, k0_off63 k, k0_off64 k, k0_off65 k, k0_off66 k, k0_off67 k, k0_off68 k]

theorem off4_eq (k : Fin k0_t4_loop.trips) : off4 k = offs (32 * k.val + 384) := by
  funext b
  fin_cases b
  exacts [k0_off53_eq k, k0_off54_eq k, k0_off55_eq k, k0_off56_eq k, k0_off57_eq k, k0_off58_eq k, k0_off59_eq k, k0_off60_eq k, k0_off61_eq k, k0_off62_eq k, k0_off63_eq k, k0_off64_eq k, k0_off65_eq k, k0_off66_eq k, k0_off67_eq k, k0_off68_eq k]

theorem row4 (k : Fin k0_t4_loop.trips) : 32 * k.val + 384 + 32 ≤ 512 := by
  have : k.val < 4 := Nat.lt_of_lt_of_le k.isLt k0_t4_abs.2.1
  omega

theorem inb4 (k : Fin k0_t4_loop.trips) (b : Fin 16) (a : Fin 3) : off4 k b a + S1x32x128.size a ≤ S1x512x2048.size a := by
  rw [off4_eq]; exact inb_offs (row4 k) b a

theorem inbS4 (k : Fin k0_t4_loop.trips) (a : Fin 3) : k0_off52 k a + S1x32x16.size a ≤ S1x512x16.size a := by
  rw [k0_off52_eq]; exact inb_offS (row4 k) a

section
variable (k : Fin k0_t4_loop.trips)

/-- Loop 4's loads, with the program's own rectangles. -/
abbrev loads4 : Loads F := loads arg2 arg3 arg4 arg5 arg6 arg7 arg8 arg9 X_arg2 X_arg3 X_arg4 X_arg5 X_arg6 X_arg7 X_arg8 X_arg9 (k0_off52 k) (inbS4 k) (off4 k) (inb4 k)

theorem mu4 : trip_k0_t4.sl.r_12 (F := F) arg2 arg3 X_arg2 X_arg3 k = (loads4 arg2 arg3 arg4 arg5 arg6 arg7 arg8 arg9 X_arg2 X_arg3 X_arg4 X_arg5 X_arg6 X_arg7 X_arg8 X_arg9 k).mu := (rfl)

theorem rstd4 : trip_k0_t4.sl.r_19 (F := F) arg2 arg3 X_arg2 X_arg3 k
    = (loads4 arg2 arg3 arg4 arg5 arg6 arg7 arg8 arg9 X_arg2 X_arg3 X_arg4 X_arg5 X_arg6 X_arg7 X_arg8 X_arg9 k).rstdOf (trip_k0_t4.sl.r_12 arg2 arg3 X_arg2 X_arg3 k) := (rfl)

attribute [local irreducible] trip_k0_t4.sl.r_12 trip_k0_t4.sl.r_19 k0_off52 k0_off53 k0_off54 k0_off55 k0_off56 k0_off57 k0_off58 k0_off59 k0_off60 k0_off61 k0_off62 k0_off63 k0_off64 k0_off65 k0_off66 k0_off67 k0_off68

theorem gm4 : trip_k0_t4.sl.r_95 (F := F) arg7 arg8 arg9 X_arg7 X_arg8 X_arg9 k = (loads4 arg2 arg3 arg4 arg5 arg6 arg7 arg8 arg9 X_arg2 X_arg3 X_arg4 X_arg5 X_arg6 X_arg7 X_arg8 X_arg9 k).gm := (rfl)

set_option maxHeartbeats 4000000 in
theorem gxm4 : trip_k0_t4.sl.r_96 (F := F) arg2 arg3 arg7 arg8 arg9 X_arg2 X_arg3 X_arg7 X_arg8 X_arg9 k
    = (loads4 arg2 arg3 arg4 arg5 arg6 arg7 arg8 arg9 X_arg2 X_arg3 X_arg4 X_arg5 X_arg6 X_arg7 X_arg8 X_arg9 k).gxmOf (trip_k0_t4.sl.r_12 arg2 arg3 X_arg2 X_arg3 k) (trip_k0_t4.sl.r_19 arg2 arg3 X_arg2 X_arg3 k) := (rfl)

attribute [local irreducible] trip_k0_t4.sl.r_95 trip_k0_t4.sl.r_96

end

set_option maxHeartbeats 40000000 in
/-- Loop 4's trip, with the program's own rectangles. -/
theorem tripL4_eq' (v37_r2 : FVec F S1x2048 .f32) (k : Fin k0_t4_loop.trips) (f_arg10 : BufTy.Contents (Elt F) arg10.view.ty)
    (f_al : BufTy.Contents (Elt F) alloca_r3.view.ty) :
    tripL_k0_t4 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v37_r2 X_arg2 X_arg3 X_arg4 X_arg5 X_arg6 X_arg7 X_arg8 X_arg9 k f_arg10 f_al
      = (trip (off4 k) (inb4 k) (loads4 arg2 arg3 arg4 arg5 arg6 arg7 arg8 arg9 X_arg2 X_arg3 X_arg4 X_arg5 X_arg6 X_arg7 X_arg8 X_arg9 k) alloca_r3 f_al) := by
  rw [trip, Loads.gxm, Loads.rstd, ← gm4, ← mu4, ← rstd4, ← gxm4]
  unfold tripL_k0_t4 trip_k0_t4
  exact (rfl)

/-- Loop 4's trip `k` is the body on the 32 rows from `32 k + 384`. -/
theorem tripL4_eq (v37_r2 : FVec F S1x2048 .f32) (k : Fin k0_t4_loop.trips) (f_arg10 : BufTy.Contents (Elt F) arg10.view.ty)
    (f_al : BufTy.Contents (Elt F) alloca_r3.view.ty) :
    tripL_k0_t4 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v37_r2 X_arg2 X_arg3 X_arg4 X_arg5 X_arg6 X_arg7 X_arg8 X_arg9 k f_arg10 f_al
      = trip (offs (32 * k.val + 384)) (inb_offs (row4 k)) (loadsR arg2 arg3 arg4 arg5 arg6 arg7 arg8 arg9 X_arg2 X_arg3 X_arg4 X_arg5 X_arg6 X_arg7 X_arg8 X_arg9 (row4 k)) alloca_r3 f_al := by
  rw [tripL4_eq']
  have e₁ := off4_eq k
  have e₂ : k0_off52 k = offS (32 * k.val + 384) := k0_off52_eq k
  have key : ∀ (o : Fin 3 → ℕ) (ho : ∀ a, o a + S1x32x16.size a ≤ S1x512x16.size a)
      (off : Fin 16 → Fin 3 → ℕ) (hoff : ∀ b a, off b a + S1x32x128.size a ≤ S1x512x2048.size a),
      off = offs (32 * k.val + 384) → o = offS (32 * k.val + 384) →
      trip off hoff (loads arg2 arg3 arg4 arg5 arg6 arg7 arg8 arg9 X_arg2 X_arg3 X_arg4 X_arg5 X_arg6 X_arg7 X_arg8 X_arg9 o ho off hoff) alloca_r3 f_al
      = trip (offs (32 * k.val + 384)) (inb_offs (row4 k)) (loadsR arg2 arg3 arg4 arg5 arg6 arg7 arg8 arg9 X_arg2 X_arg3 X_arg4 X_arg5 X_arg6 X_arg7 X_arg8 X_arg9 (row4 k)) alloca_r3 f_al := by
    rintro o ho off hoff rfl rfl
    rfl
  exact key _ _ _ _ e₁ e₂

end Loops

end Cert.KernelIdeal.Body

end
-- ==== Proof.LoopPieces.lean ====
/-
  The stores of the four row loops. Loop `n` walks the 128 rows from `128 (n - 1)`, four trips of 32 rows; its stores depend
  on what it loads and on what its accumulator holds at entry, and on nothing that the output buffer holds.
-/
module

public import proofs.«01_k».proof.Proof.LoopEq1
public import proofs.«01_k».proof.Proof.LoopEq2
public import proofs.«01_k».proof.Proof.LoopEq3
public import proofs.«01_k».proof.Proof.LoopEq4

@[expose] public section

noncomputable section

namespace Cert.KernelIdeal.Body

open Idealize.ShloMosaic Idealize.SL.Sem Cert.KernelIdeal.Gen

variable {F : FTy → Type} [FloatOps F]

/-- What a loop stores before trip `n` (last first): to `dx`, and to its accumulator `al`, which holds `G` at entry. The
    loop's rows start at `base`; `L` says what a trip loads. -/
def pcs (base : ℕ) (L : ∀ {r : ℕ}, r + 32 ≤ 512 → Loads F) (al : Memref sig .tc .vmem S3x8x2048 .f32)
    (G : BufTy.Contents (Elt F) al.view.ty) :
    ℕ → List (View.Piece (Elt F) S1x512x2048 .bf16) × List (View.Piece (Elt F) S3x8x2048 .f32)
  | 0 => ([], [])
  | n + 1 =>
    if h : 32 * n + base + 32 ≤ 512 then
      ((trip (offs (32 * n + base)) (inb_offs h) (L h) al (al.view.writes (Elt F) G (pcs base L al G n).2)).1 ++ (pcs base L al G n).1,
        (trip (offs (32 * n + base)) (inb_offs h) (L h) al (al.view.writes (Elt F) G (pcs base L al G n).2)).2 ++ (pcs base L al G n).2)
    else pcs base L al G n

theorem pcs_succ (base : ℕ) (L : ∀ {r : ℕ}, r + 32 ≤ 512 → Loads F) (al : Memref sig .tc .vmem S3x8x2048 .f32)
    (G : BufTy.Contents (Elt F) al.view.ty) (n : ℕ) (h : 32 * n + base + 32 ≤ 512) :
    pcs base L al G (n + 1)
      = ((trip (offs (32 * n + base)) (inb_offs h) (L h) al (al.view.writes (Elt F) G (pcs base L al G n).2)).1 ++ (pcs base L al G n).1,
        (trip (offs (32 * n + base)) (inb_offs h) (L h) al (al.view.writes (Elt F) G (pcs base L al G n).2)).2 ++ (pcs base L al G n).2) := by
  rw [pcs.eq_2]
  exact dif_pos h

theorem trips1 : k0_t1_loop.trips = 4 := by decide +kernel

theorem trips2 : k0_t2_loop.trips = 4 := by decide +kernel

theorem trips3 : k0_t3_loop.trips = 4 := by decide +kernel

theorem trips4 : k0_t4_loop.trips = 4 := by decide +kernel

end Cert.KernelIdeal.Body

end
-- ==== Proof.LoopInvs.lean ====
/-
  The four row loops of the kernel, each by an invariant that names what its trips have stored so far: to `dx` and to its
  accumulator, as the pieces of `pcs`. What the output buffer held before does not enter into it.
-/
module

public import proofs.«01_k».proof.Proof.LoopPieces

@[expose] public section

set_option maxRecDepth 8192
set_option maxHeartbeats 4000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- Before trip `k`: the inputs as they were, `dx` and the accumulator holding the stores of the trips before `k` over what
    they held at entry. -/
abbrev inv (base : ℕ) (c : Dev nD) (arg2 : Memref sig .tc .vmem S1x512x2048 .fp8e4m3) (arg3 : Memref sig .tc .vmem S1x512x16 .f32) (arg4 : Memref sig .tc .vmem S1x512x2048 .bf16) (arg5 : Memref sig .tc .vmem S1x512x2048 .fp8e5m2) (arg6 : Memref sig .tc .vmem S1x512x16 .f32) (arg7 : Memref sig .tc .vmem S1x512x2048 .fp8e5m2) (arg8 : Memref sig .tc .vmem S1x512x16 .f32) (arg9 : Memref sig .tc .vmem S1x1x2048 .f32) (arg10 : Memref sig .tc .vmem S1x512x2048 .bf16) (al : Memref sig .tc .vmem S3x8x2048 .f32)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty)
    (G_arg10 : BufTy.Contents (Elt F) arg10.view.ty) (G_al : BufTy.Contents (Elt F) al.view.ty) (k : ℕ) (_u : PUnit) : sProp 𝕄G :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9)
    ∗ (∃ f, (arg10.view.loc (c : Thread nD τ) ↦[arg10.view.set]{fullShare} f) ∗ ⌜f = arg10.view.writes (Elt F) G_arg10 (pcs base (fun hr => loadsR arg2 arg3 arg4 arg5 arg6 arg7 arg8 arg9 X_arg2 X_arg3 X_arg4 X_arg5 X_arg6 X_arg7 X_arg8 X_arg9 hr) al G_al k).1⌝)
    ∗ (∃ f, (al.view.loc (c : Thread nD τ) ↦[al.view.set]{fullShare} f) ∗ ⌜f = al.view.writes (Elt F) G_al (pcs base (fun hr => loadsR arg2 arg3 arg4 arg5 arg6 arg7 arg8 arg9 X_arg2 X_arg3 X_arg4 X_arg5 X_arg6 X_arg7 X_arg8 X_arg9 hr) al G_al k).2⌝))

set_option warn.classDefReducibility false in
/-- Loop 1 by that invariant. -/
@[sl_loop] def loopInv1 (𝒱 : Variants) (c : Dev nD) (bd : Option 𝒱.V) (E : Set ℕ) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_alloca_r0 : BufTy.Contents (Elt F) alloca_r0.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 where
  inv := inv (F := F) 0 c arg2 arg3 arg4 arg5 arg6 arg7 arg8 arg9 arg10 alloca_r0 X_arg2 X_arg3 X_arg4 X_arg5 X_arg6 X_arg7 X_arg8 X_arg9 G_arg10 G_alloca_r0
  step k acc := by
    iintro ⟨HR_arg2, HR_arg3, HR_arg4, HR_arg5, HR_arg6, HR_arg7, HR_arg8, HR_arg9, ⟨%f_arg10, HW_arg10, %h_arg10⟩, ⟨%f_alloca_r0, HW_alloca_r0, %h_alloca_r0⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HR_arg9 HW_arg10 HW_alloca_r0]
    · iapply ((trip_k0_t1 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k).2.2 E f_arg10 f_alloca_r0)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HW_arg10]; · iexact HW_arg10
      iexact HW_alloca_r0
    · iintro %_ ⟨HR_arg2, HR_arg3, HR_arg4, HR_arg5, HR_arg6, HR_arg7, HR_arg8, HR_arg9, HW_arg10, HW_alloca_r0⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      have e := tripL1_eq 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k f_arg10 f_alloca_r0
      rw [pcs_succ _ _ _ _ _ (row1 k)]
      isplitl [HW_arg10]
      · iexists _; isplitl [HW_arg10]; · iexact HW_arg10
        ipureintro; rw [View.writes_append, ← h_arg10, ← h_alloca_r0]
        exact congrArg (fun p => arg10.view.writes (Elt F) f_arg10 p.1) e
      iexists _; isplitl [HW_alloca_r0]; · iexact HW_alloca_r0
      ipureintro; rw [View.writes_append, ← h_alloca_r0]
      exact congrArg (fun p => alloca_r0.view.writes (Elt F) f_alloca_r0 p.2) e

set_option warn.classDefReducibility false in
/-- Loop 2 by that invariant. -/
@[sl_loop] def loopInv2 (𝒱 : Variants) (c : Dev nD) (bd : Option 𝒱.V) (E : Set ℕ) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_alloca_r1 : BufTy.Contents (Elt F) alloca_r1.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 where
  inv := inv (F := F) 128 c arg2 arg3 arg4 arg5 arg6 arg7 arg8 arg9 arg10 alloca_r1 X_arg2 X_arg3 X_arg4 X_arg5 X_arg6 X_arg7 X_arg8 X_arg9 G_arg10 G_alloca_r1
  step k acc := by
    iintro ⟨HR_arg2, HR_arg3, HR_arg4, HR_arg5, HR_arg6, HR_arg7, HR_arg8, HR_arg9, ⟨%f_arg10, HW_arg10, %h_arg10⟩, ⟨%f_alloca_r1, HW_alloca_r1, %h_alloca_r1⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HR_arg9 HW_arg10 HW_alloca_r1]
    · iapply ((trip_k0_t2 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k).2.2 E f_arg10 f_alloca_r1)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HW_arg10]; · iexact HW_arg10
      iexact HW_alloca_r1
    · iintro %_ ⟨HR_arg2, HR_arg3, HR_arg4, HR_arg5, HR_arg6, HR_arg7, HR_arg8, HR_arg9, HW_arg10, HW_alloca_r1⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      have e := tripL2_eq 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 k f_arg10 f_alloca_r1
      rw [pcs_succ _ _ _ _ _ (row2 k)]
      isplitl [HW_arg10]
      · iexists _; isplitl [HW_arg10]; · iexact HW_arg10
        ipureintro; rw [View.writes_append, ← h_arg10, ← h_alloca_r1]
        exact congrArg (fun p => arg10.view.writes (Elt F) f_arg10 p.1) e
      iexists _; isplitl [HW_alloca_r1]; · iexact HW_alloca_r1
      ipureintro; rw [View.writes_append, ← h_alloca_r1]
      exact congrArg (fun p => alloca_r1.view.writes (Elt F) f_alloca_r1 p.2) e

set_option warn.classDefReducibility false in
/-- Loop 3 by that invariant. -/
@[sl_loop] def loopInv3 (𝒱 : Variants) (c : Dev nD) (bd : Option 𝒱.V) (E : Set ℕ) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (v30_r1 : FVec F S1x2048 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_alloca_r2 : BufTy.Contents (Elt F) alloca_r2.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v30_r1 where
  inv := inv (F := F) 256 c arg2 arg3 arg4 arg5 arg6 arg7 arg8 arg9 arg10 alloca_r2 X_arg2 X_arg3 X_arg4 X_arg5 X_arg6 X_arg7 X_arg8 X_arg9 G_arg10 G_alloca_r2
  step k acc := by
    iintro ⟨HR_arg2, HR_arg3, HR_arg4, HR_arg5, HR_arg6, HR_arg7, HR_arg8, HR_arg9, ⟨%f_arg10, HW_arg10, %h_arg10⟩, ⟨%f_alloca_r2, HW_alloca_r2, %h_alloca_r2⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HR_arg9 HW_arg10 HW_alloca_r2]
    · iapply ((trip_k0_t3 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v30_r1 X_arg2 X_arg3 X_arg4 X_arg5 X_arg6 X_arg7 X_arg8 X_arg9 k).2.2 E f_arg10 f_alloca_r2)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HW_arg10]; · iexact HW_arg10
      iexact HW_alloca_r2
    · iintro %_ ⟨HR_arg2, HR_arg3, HR_arg4, HR_arg5, HR_arg6, HR_arg7, HR_arg8, HR_arg9, HW_arg10, HW_alloca_r2⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      have e := tripL3_eq 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 v30_r1 k f_arg10 f_alloca_r2
      rw [pcs_succ _ _ _ _ _ (row3 k)]
      isplitl [HW_arg10]
      · iexists _; isplitl [HW_arg10]; · iexact HW_arg10
        ipureintro; rw [View.writes_append, ← h_arg10, ← h_alloca_r2]
        exact congrArg (fun p => arg10.view.writes (Elt F) f_arg10 p.1) e
      iexists _; isplitl [HW_alloca_r2]; · iexact HW_alloca_r2
      ipureintro; rw [View.writes_append, ← h_alloca_r2]
      exact congrArg (fun p => alloca_r2.view.writes (Elt F) f_alloca_r2 p.2) e

set_option warn.classDefReducibility false in
/-- Loop 4 by that invariant. -/
@[sl_loop] def loopInv4 (𝒱 : Variants) (c : Dev nD) (bd : Option 𝒱.V) (E : Set ℕ) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (v37_r2 : FVec F S1x2048 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (G_arg10 : BufTy.Contents (Elt F) arg10.view.ty) (G_alloca_r3 : BufTy.Contents (Elt F) alloca_r3.view.ty) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v37_r2 where
  inv := inv (F := F) 384 c arg2 arg3 arg4 arg5 arg6 arg7 arg8 arg9 arg10 alloca_r3 X_arg2 X_arg3 X_arg4 X_arg5 X_arg6 X_arg7 X_arg8 X_arg9 G_arg10 G_alloca_r3
  step k acc := by
    iintro ⟨HR_arg2, HR_arg3, HR_arg4, HR_arg5, HR_arg6, HR_arg7, HR_arg8, HR_arg9, ⟨%f_arg10, HW_arg10, %h_arg10⟩, ⟨%f_alloca_r3, HW_alloca_r3, %h_alloca_r3⟩⟩
    iapply (wp_wand_r Idealize.ShloMosaic.frame (wpE (defs₀ (F := F)) 𝒱 (c : Thread nD τ) bd) E)
    isplitl [HR_arg2 HR_arg3 HR_arg4 HR_arg5 HR_arg6 HR_arg7 HR_arg8 HR_arg9 HW_arg10 HW_alloca_r3]
    · iapply ((trip_k0_t4 (F := F) 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 v37_r2 X_arg2 X_arg3 X_arg4 X_arg5 X_arg6 X_arg7 X_arg8 X_arg9 k).2.2 E f_arg10 f_alloca_r3)
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      isplitl [HW_arg10]; · iexact HW_arg10
      iexact HW_alloca_r3
    · iintro %_ ⟨HR_arg2, HR_arg3, HR_arg4, HR_arg5, HR_arg6, HR_arg7, HR_arg8, HR_arg9, HW_arg10, HW_alloca_r3⟩
      isplitl [HR_arg2]; · iexact HR_arg2
      isplitl [HR_arg3]; · iexact HR_arg3
      isplitl [HR_arg4]; · iexact HR_arg4
      isplitl [HR_arg5]; · iexact HR_arg5
      isplitl [HR_arg6]; · iexact HR_arg6
      isplitl [HR_arg7]; · iexact HR_arg7
      isplitl [HR_arg8]; · iexact HR_arg8
      isplitl [HR_arg9]; · iexact HR_arg9
      have e := tripL4_eq 𝒱 c bd i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 X_arg2 X_arg3 X_arg4 X_arg5 X_arg6 X_arg7 X_arg8 X_arg9 v37_r2 k f_arg10 f_alloca_r3
      rw [pcs_succ _ _ _ _ _ (row4 k)]
      isplitl [HW_arg10]
      · iexists _; isplitl [HW_arg10]; · iexact HW_arg10
        ipureintro; rw [View.writes_append, ← h_arg10, ← h_alloca_r3]
        exact congrArg (fun p => arg10.view.writes (Elt F) f_arg10 p.1) e
      iexists _; isplitl [HW_alloca_r3]; · iexact HW_alloca_r3
      ipureintro; rw [View.writes_append, ← h_alloca_r3]
      exact congrArg (fun p => alloca_r3.view.writes (Elt F) f_alloca_r3 p.2) e

end Cert.KernelIdeal.Body

end
-- ==== Proof.Kern.RunA.lean ====
/-
  One grid point of the kernel where the column block is the first (the accumulated `dmod` block is cleared first): the body
  run from start to end, with the stores each output buffer ends with as the witness.
-/
module

public import proofs.«01_k».proof.Proof.Gen.KernelIdeal.Frame.Runs
public import proofs.«01_k».proof.Proof.LoopInvs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE A (`scf.if` 0 taken: points 0, 5, … 35: 8 of 40), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) :
    Σ' (L8 : List (View.Piece (Elt F) S1x512x2048 .bf16)), Σ' (L9 : List (View.Piece (Elt F) S1x3x2048 .f32)), { L10 : List (View.Piece (Elt F) S1x4x3x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3) K } := by
  refine ⟨?_, ?_, ?_, fun E K => ?run⟩
  case run =>
    simp only [cc0__body_eq_skeleton]; unfold cc0__body_skel
    simp only [k0_part189_eq_skeleton, k0_part190_eq_skeleton, k0_part191_eq_skeleton, k0_part192_eq_skeleton, k0_part193_eq_skeleton, k0_part194_eq_skeleton, k0_part195_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Kern.RunB.lean ====
/-
  One grid point of the kernel where the column block is not the first (`dmod` is added to): the body run from start to end,
  with the stores each output buffer ends with as the witness.
-/
module

public import proofs.«01_k».proof.Proof.Kern.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- What the body's stores leave in each output's staging memref, as pieces (last first) IN CASE B (`scf.if` 0 not taken: points 1, 2, … 39: 32 of 40), WITH the
    proof that on whole staging memrefs — the inputs' at their contents, the outputs it reads before covering (9) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : ¬cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) (xo9 : Vec F S1x3x2048 .f32) :
    Σ' (L8 : List (View.Piece (Elt F) S1x512x2048 .bf16)), Σ' (L9 : List (View.Piece (Elt F) S1x3x2048 .f32)), { L10 : List (View.Piece (Elt F) S1x4x3x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xo9 ∗ (∃ d, owns (c : Thread nD τ) arg12 fullShare d) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ d, owns (c : Thread nD τ) alloca_r0 fullShare d) ∗ (∃ d, owns (c : Thread nD τ) alloca_r1 fullShare d) ∗ (∃ d, owns (c : Thread nD τ) alloca_r2 fullShare d) ∗ (∃ d, owns (c : Thread nD τ) alloca_r3 fullShare d)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3) K } := by
  refine ⟨?_, ?_, ?_, fun E K => ?run⟩
  case run =>
    simp only [cc0__body_eq_skeleton]; unfold cc0__body_skel
    simp only [k0_part189_eq_skeleton, k0_part190_eq_skeleton, k0_part191_eq_skeleton, k0_part192_eq_skeleton, k0_part193_eq_skeleton, k0_part194_eq_skeleton, k0_part195_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Gen

end
-- ==== Proof.Kern.Frame.lean ====
/-
  The kernel's run over its whole grid: every execution ends, the inputs end unchanged, and each output array ends with what
  the grid points wrote.
-/
module

public import proofs.«01_k».proof.Proof.Kern.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 8 tile its block (256 stores of `S1x32x128`, checked by the kernel's evaluation: Lib/Ring.lean `Piece.tiledL`, linear in the pieces, through a loop's `@[irreducible]` trip theorem too), so they cover it. -/
theorem cover0_A_8 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) (y : S1x512x2048.Idx) :
    ∃ pc ∈ (kernelRun0_A c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).1 S1x32x128.size (by sl_kernel_rfl) y

/-- What case A leaves in output 8's staging buffer: its pieces read back over junk. -/
def out0_A_8 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) : Vec F S1x512x2048 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).1)

/-- Case A's pieces for output 9 are of SEVERAL sizes (13 stores of `S1x1x2048`, `S1x3x2048`): cut into blocks of `![1, 1, 2048]` they tile its block (checked by the kernel's evaluation: Lib/Ring.lean `Piece.tiledBy`), so they cover it. -/
theorem cover0_A_9 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) (y : S1x3x2048.Idx) :
    ∃ pc ∈ (kernelRun0_A c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).2.1, y ∈ pc.1.set :=
  View.cover_of_tiledBy (kernelRun0_A c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).2.1 ![1, 1, 2048] (by sl_kernel_rfl) y

/-- What case A leaves in output 9's staging buffer: its pieces read back over junk. -/
def out0_A_9 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) : Vec F S1x3x2048 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).2.1)

/-- Case A's pieces for output 10 tile its block (12 stores of `S1x1x1x2048`, checked by the kernel's evaluation: Lib/Ring.lean `Piece.tiledL`, linear in the pieces, through a loop's `@[irreducible]` trip theorem too), so they cover it. -/
theorem cover0_A_10 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) (y : S1x4x3x2048.Idx) :
    ∃ pc ∈ (kernelRun0_A c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).2.2.1 S1x1x1x2048.size (by sl_kernel_rfl) y

/-- What case A leaves in output 10's staging buffer: its pieces read back over junk. -/
def out0_A_10 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) : Vec F S1x4x3x2048 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).2.2.1)

/-- Case B's pieces for output 8 tile its block (256 stores of `S1x32x128`, checked by the kernel's evaluation: Lib/Ring.lean `Piece.tiledL`, linear in the pieces, through a loop's `@[irreducible]` trip theorem too), so they cover it. -/
theorem cover0_B_8 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : ¬cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) (xo9 : Vec F S1x3x2048 .f32) (y : S1x512x2048.Idx) :
    ∃ pc ∈ (kernelRun0_B c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo9).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo9).1 S1x32x128.size (by sl_kernel_rfl) y

/-- What case B leaves in output 8's staging buffer: its pieces read back over junk. -/
def out0_B_8 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : ¬cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) (xo9 : Vec F S1x3x2048 .f32) : Vec F S1x512x2048 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo9).1)

/-- Case B's pieces for output 9 tile its block (12 stores of `S1x1x2048`, checked by the kernel's evaluation: Lib/Ring.lean `Piece.tiledL`, linear in the pieces, through a loop's `@[irreducible]` trip theorem too), so they cover it. -/
theorem cover0_B_9 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : ¬cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) (xo9 : Vec F S1x3x2048 .f32) (y : S1x3x2048.Idx) :
    ∃ pc ∈ (kernelRun0_B c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo9).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo9).2.1 S1x1x2048.size (by sl_kernel_rfl) y

/-- What case B leaves in output 9's staging buffer: its pieces read back over junk. -/
def out0_B_9 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : ¬cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) (xo9 : Vec F S1x3x2048 .f32) : Vec F S1x3x2048 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo9).2.1)

/-- Case B's pieces for output 10 tile its block (12 stores of `S1x1x1x2048`, checked by the kernel's evaluation: Lib/Ring.lean `Piece.tiledL`, linear in the pieces, through a loop's `@[irreducible]` trip theorem too), so they cover it. -/
theorem cover0_B_10 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : ¬cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) (xo9 : Vec F S1x3x2048 .f32) (y : S1x4x3x2048.Idx) :
    ∃ pc ∈ (kernelRun0_B c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo9).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo9).2.2.1 S1x1x1x2048.size (by sl_kernel_rfl) y

/-- What case B leaves in output 10's staging buffer: its pieces read back over junk. -/
def out0_B_10 (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole) (hc0 : ¬cond0_0 i)
    (x0 : Vec F S1x512x2048 .fp8e4m3) (x1 : Vec F S1x512x16 .f32) (x2 : Vec F S1x512x2048 .bf16) (x3 : Vec F S1x512x2048 .fp8e5m2) (x4 : Vec F S1x512x16 .f32) (x5 : Vec F S1x512x2048 .fp8e5m2) (x6 : Vec F S1x512x16 .f32) (x7 : Vec F S1x1x2048 .f32) (xo9 : Vec F S1x3x2048 .f32) : Vec F S1x4x3x2048 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo9).2.2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x512x2048 .bf16 × Vec F S1x3x2048 .f32 × Vec F S1x4x3x2048 .f32
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 5 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.1)

/-- `outsAt0` at a point of case A: that case's contents. -/
theorem outsAt0_A (c : Dev nD) (t : Fin cfg0.N) (h0 : t.val % 5 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 5 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 5 = 0) (d) :
    (dats m 0 c).before 9 t d = (outsAt0 m c (t.val - 1) (Nat.lt_of_le_of_lt (Nat.sub_le _ _) t.isLt)).2.1 := by
  have hN : t.val < 40 := lt_of_lt_of_eq t.isLt (show cfg0.N = 40 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  rw [show (dats m 0 c).Φ t.castSucc = Pipeline.ΦA spec0 c from rfl, PhiA0_eq]
  have hN : t.val < 40 := lt_of_lt_of_eq t.isLt (show cfg0.N = 40 from N_0)
  by_cases h0 : t.val % 5 = 0
  · rw [outsAt0_A m c t h0]
    unfold out0_A_8 out0_A_9 out0_A_10; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, ⟨%e8, H8⟩, ⟨%e9, H9⟩, ⟨%e10, H10⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_A_10 c _ _ _ _ _ _ _ _ _ _ _ _ _ _ _ _ _ _ _ _ _ _ _ _ _ _ _ _ _ _ _ _ _ _ _ _ _ _ _ _)
  · rw [outsAt0_B m c t h0]
    simp only [before0_9_B m c t h0]
    unfold out0_B_8 out0_B_9 out0_B_10; (try dsimp only)
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [H10]; · iexists _; iexact H10
    isplitl [HS0]; · iexact HS0
    isplitl [HS1]; · iexact HS1
    isplitl [HS2]; · iexact HS2
    isplitl [HS3]; · iexact HS3
    iintro ⟨H0, H1, H2, H3, H4, H5, H6, H7, ⟨%e8, H8⟩, ⟨%e9, H9⟩, ⟨%e10, H10⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ _)
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _)
    unfold owns; iexists _; isplitr
    swap; · iexact H10
    ipureintro; exact View.read_writes_of_cover _ _ _ _ _ (cover0_B_10 c _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.Kern.Value.lean ====
/-
  The output arrays after the run, block by block: what each grid point writes back for each output.
-/
module

public import proofs.«01_k».proof.Proof.Kern.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 8's array: the run's contents for that window after the body (`Gen.outsAt0`: its component 0), read through the window's block. -/
theorem flushed8 (c : Dev nD) (t : Fin cfg0.N) :
    (dats m 0 c).flushed 8 t = (cfg0.win 8).cut (grid0.coords t) ((outsAt0 m c t.val t.isLt).1) := by
  show (cfg0.win 8).cut (grid0.coords t) ((dats m 0 c).after 8 t) = _
  rw [after0_8]

/-- … so at a point where case A runs, what its write-back would write is that case's NAMED TERM for the window (`Gen.out0_A_8`: the pieces
    its run found, read back) at the point's memrefs and input blocks, and for an output the case reads back what the point before left (`Gen.outsAt0` at `t - 1`) — by the frame's rewriting lemma for the case. -/
theorem flushed8_A (c : Dev nD) (t : Fin cfg0.N) (h0 : t.val % 5 = 0) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed8, outsAt0_A m c t h0]

/-- … so at a point where case B runs, what its write-back would write is that case's NAMED TERM for the window (`Gen.out0_B_8`: the pieces
    its run found, read back) at the point's memrefs and input blocks, and for an output the case reads back what the point before left (`Gen.outsAt0` at `t - 1`) — by the frame's rewriting lemma for the case. -/
theorem flushed8_B (c : Dev nD) (t : Fin cfg0.N) (h0 : ¬t.val % 5 = 0) :
    (dats m 0 c).flushed 8 t = (cfg0.win 8).cut (grid0.coords t) (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed8, outsAt0_B m c t h0]

/-- The index map sends distinct grid points to distinct block indices (decided over the 40 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S8x2560x2048.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Gen.outsAt0`: its component 1), read through the window's block. -/
theorem flushed9 (c : Dev nD) (t : Fin cfg0.N) :
    (dats m 0 c).flushed 9 t = (cfg0.win 9).cut (grid0.coords t) ((outsAt0 m c t.val t.isLt).2.1) := by
  show (cfg0.win 9).cut (grid0.coords t) ((dats m 0 c).after 9 t) = _
  rw [after0_9]

/-- … so at a point where case A runs, what its write-back would write is that case's NAMED TERM for the window (`Gen.out0_A_9`: the pieces
    its run found, read back) at the point's memrefs and input blocks, and for an output the case reads back what the point before left (`Gen.outsAt0` at `t - 1`) — by the frame's rewriting lemma for the case. -/
theorem flushed9_A (c : Dev nD) (t : Fin cfg0.N) (h0 : t.val % 5 = 0) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed9, outsAt0_A m c t h0]

/-- … so at a point where case B runs, what its write-back would write is that case's NAMED TERM for the window (`Gen.out0_B_9`: the pieces
    its run found, read back) at the point's memrefs and input blocks, and for an output the case reads back what the point before left (`Gen.outsAt0` at `t - 1`) — by the frame's rewriting lemma for the case. -/
theorem flushed9_B (c : Dev nD) (t : Fin cfg0.N) (h0 : ¬t.val % 5 = 0) :
    (dats m 0 c).flushed 9 t = (cfg0.win 9).cut (grid0.coords t) (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed9, outsAt0_B m c t h0]

-- no `blocks9`: window 9's index map revisits a block index, or its points could not be enumerated here;
-- the final array is still the frame's `arrAt`, to read with Lib/Pipeline/Value.lean's lemmas by hand

/-- An index that no flushing point's block covers keeps output window 9's array contents at region entry. -/
theorem entry9 (c : Dev nD) (i : S8x3x2048.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- WHAT POINT `t` WRITES BACK to output window 10's array: the run's contents for that window after the body (`Gen.outsAt0`: its component 2), read through the window's block. -/
theorem flushed10 (c : Dev nD) (t : Fin cfg0.N) :
    (dats m 0 c).flushed 10 t = (cfg0.win 10).cut (grid0.coords t) ((outsAt0 m c t.val t.isLt).2.2) := by
  show (cfg0.win 10).cut (grid0.coords t) ((dats m 0 c).after 10 t) = _
  rw [after0_10]

/-- … so at a point where case A runs, what its write-back would write is that case's NAMED TERM for the window (`Gen.out0_A_10`: the pieces
    its run found, read back) at the point's memrefs and input blocks, and for an output the case reads back what the point before left (`Gen.outsAt0` at `t - 1`) — by the frame's rewriting lemma for the case. -/
theorem flushed10_A (c : Dev nD) (t : Fin cfg0.N) (h0 : t.val % 5 = 0) :
    (dats m 0 c).flushed 10 t = (cfg0.win 10).cut (grid0.coords t) (out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  simp only [flushed10, outsAt0_A m c t h0]

/-- … so at a point where case B runs, what its write-back would write is that case's NAMED TERM for the window (`Gen.out0_B_10`: the pieces
    its run found, read back) at the point's memrefs and input blocks, and for an output the case reads back what the point before left (`Gen.outsAt0` at `t - 1`) — by the frame's rewriting lemma for the case. -/
theorem flushed10_B (c : Dev nD) (t : Fin cfg0.N) (h0 : ¬t.val % 5 = 0) :
    (dats m 0 c).flushed 10 t = (cfg0.win 10).cut (grid0.coords t) (out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1) := by
  simp only [flushed10, outsAt0_B m c t h0]

/-- The index map sends distinct grid points to distinct block indices (decided over the 40 points). -/
theorem idx_inj10 : ∀ t t' : Fin cfg0.N, win0_10.index t = win0_10.index t' → t = t' :=
  (by decide +kernel : ∀ t t' : Fin grid0.N, win0_10.index t = win0_10.index t' → t = t')

/-- So two flushing points' blocks share no array index (Lib/Pipeline/Cells.lean `Window.disjoint_blk`). -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- BLOCK `t` OF THE FINAL ARRAY, read back through the window, is what point `t` wrote back (`flushed10`), for every
    point that writes back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- An index that no flushing point's block covers keeps output window 10's array contents at region entry. -/
theorem entry10 (c : Dev nD) (i : S8x20x3x2048.Idx) (h : ∀ t : Fin cfg0.N, (cfg0.win 10).flush t = true → i ∉ ((cfg0.win 10).blk t).view.set) :
    (dats m 0 c).arrAt 10 cfg0.N i = V m c (Pipeline.arrRef spec0 10) i := by
  rw [(dats m 0 c).arrAt_apply_of_forall_not_mem 10 cfg0.N i (fun t _ hf => h t hf), A_eq]

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v1_0) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v1_1) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v1_2) = (dats m 0 c).arrAt 10 cfg0.N :=
  (h c).1 10

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 8 cfg0.N
      ∧ r.2.mem ((c : Thread nD τ).loc main_v1_1) = (dats m 0 c).arrAt 9 cfg0.N
      ∧ r.2.mem ((c : Thread nD τ).loc main_v1_2) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.KernelIdeal.Value

end
-- ==== Proof.RowSpec.lean ====
/-
  The mathematics of one row, over the extended reals: a row of 2048 entries `x`, its mean and reciprocal standard
  deviation, the normalized row, and the gradient `dx` of a modulated layer normalization followed by an addition.
  Both programs are read in these terms.
-/
module

public import Idealize.ShloMosaic.Lib.Pointwise
public import Idealize.ShloMosaic.PureOps.Ideal

@[expose] public section

noncomputable section

namespace Cert.Row

open Idealize.ShloMosaic
open scoped BigOperators

/-- The constant 1/2048. -/
def inv : EReal := Ideal.ofBits .f32 0x3A000000#32

/-- The constant added to the variance. -/
def eps : EReal := Ideal.ofBits .f32 0x358637BD#32

/-- The mean of a row. -/
def mean (f : Fin 2048 → EReal) : EReal := (∑ j, f j) * inv

/-- The row's reciprocal standard deviation. -/
def rstd (x : Fin 2048 → EReal) : EReal :=
  Ideal.rsqrt (mean (fun j => (x j - mean x) * (x j - mean x)) + eps)

/-- The normalized row. -/
def xhat (x : Fin 2048 → EReal) (j : Fin 2048) : EReal := (x j - mean x) * rstd x

/-- The gradient at the normalized row: `dh` times one plus the modulation scale. -/
def g (dh ms : Fin 2048 → EReal) (j : Fin 2048) : EReal := dh j * (1 + ms j)

/-- The gradient at the row. -/
def dx (x dh dy ms : Fin 2048 → EReal) (j : Fin 2048) : EReal :=
  dy j + rstd x * (g dh ms j - mean (g dh ms) - xhat x j * mean (fun j => g dh ms j * xhat x j))

/-! ### Columns: 2048 = 16 · 128 -/

/-- The channel block of a column. -/
def hi (j : Fin 2048) : Fin 16 := ⟨j.val / 128, by have := j.isLt; omega⟩

/-- The column's place in its channel block. -/
def lo (j : Fin 2048) : Fin 128 := ⟨j.val % 128, by omega⟩

/-- Column `l` of channel block `b`. -/
def col (b : Fin 16) (l : Fin 128) : Fin 2048 := ⟨128 * b.val + l.val, by have := b.isLt; have := l.isLt; omega⟩

theorem hi_col (b : Fin 16) (l : Fin 128) : hi (col b l) = b := by
  apply Fin.ext; simp only [hi, col]; have := l.isLt; omega

theorem lo_col (b : Fin 16) (l : Fin 128) : lo (col b l) = l := by
  apply Fin.ext; simp only [lo, col]; have := l.isLt; omega

theorem col_hi_lo (j : Fin 2048) : col (hi j) (lo j) = j := by
  apply Fin.ext; simp only [hi, lo, col]; omega

/-- The columns are the pairs of a channel block and a place in it. -/
def colEquiv : Fin 16 × Fin 128 ≃ Fin 2048 where
  toFun p := col p.1 p.2
  invFun j := (hi j, lo j)
  left_inv p := by simp only [hi_col, lo_col]
  right_inv j := col_hi_lo j

/-- A sum over the places of the channel blocks' sums is a sum over the columns. -/
theorem sum_cols (f : Fin 16 → Fin 128 → EReal) : ∑ l : Fin 128, ∑ b : Fin 16, f b l = ∑ j : Fin 2048, f (hi j) (lo j) := by
  rw [Finset.sum_comm, ← Fintype.sum_prod_type', ← Equiv.sum_comp colEquiv]
  exact Finset.sum_congr rfl fun p _ => by simp only [colEquiv, Equiv.coe_fn_mk, hi_col, lo_col]

/-! ### Dequantized rows of an array -/

/-- Row `R` of slab `i` of an array of codes, dequantized by the row's scales, one per channel block. -/
def deq {n0 n1 : ℕ} (c : (⟨3, ![n0, n1, 2048]⟩ : Shape).Idx → EReal) (s : (⟨3, ![n0, n1, 16]⟩ : Shape).Idx → EReal)
    (i : Fin n0) (R : Fin n1) (j : Fin 2048) : EReal := c (ix3 i R j) * s (ix3 i R (hi j))

/-- Row `R` of slab `i` of an array. -/
def raw {n0 n1 : ℕ} (c : (⟨3, ![n0, n1, 2048]⟩ : Shape).Idx → EReal) (i : Fin n0) (R : Fin n1) (j : Fin 2048) : EReal :=
  c (ix3 i R j)

/-! ### The quantities of a row of the input arrays -/

/-- The input arrays, `n0` slabs of `n1` rows: codes and scales of `x`, `dy`, `dh`, the array `f_out`, and the modulation
    scale, one row per slab. -/
structure Arr (n0 n1 : ℕ) where
  xc : (⟨3, ![n0, n1, 2048]⟩ : Shape).Idx → EReal
  xs : (⟨3, ![n0, n1, 16]⟩ : Shape).Idx → EReal
  fo : (⟨3, ![n0, n1, 2048]⟩ : Shape).Idx → EReal
  dyc : (⟨3, ![n0, n1, 2048]⟩ : Shape).Idx → EReal
  dys : (⟨3, ![n0, n1, 16]⟩ : Shape).Idx → EReal
  dhc : (⟨3, ![n0, n1, 2048]⟩ : Shape).Idx → EReal
  dhs : (⟨3, ![n0, n1, 16]⟩ : Shape).Idx → EReal
  ms : (⟨3, ![n0, 1, 2048]⟩ : Shape).Idx → EReal

namespace Arr

variable {n0 n1 : ℕ} (A : Arr n0 n1) (i : Fin n0) (R : Fin n1)

/-- Row `R` of slab `i` of `x`. -/
def x : Fin 2048 → EReal := deq A.xc A.xs i R

/-- Row `R` of slab `i` of `dy`. -/
def dy : Fin 2048 → EReal := deq A.dyc A.dys i R

/-- Row `R` of slab `i` of `dh`. -/
def dh : Fin 2048 → EReal := deq A.dhc A.dhs i R

/-- The modulation scale of slab `i`. -/
def m : Fin 2048 → EReal := raw A.ms i 0

/-- The gradient at row `R` of slab `i`. -/
def dx : Fin 2048 → EReal := Row.dx (A.x i R) (A.dh i R) (A.dy i R) (A.m i)

/-- The three quantities of row `R` of slab `i` that are summed over rows: `dh`, `dh` times the normalized `x`, and `dy`
    times `f_out`. -/
def part (k : Fin 3) (j : Fin 2048) : EReal :=
  match k with
  | 0 => A.dh i R j
  | 1 => A.dh i R j * Row.xhat (A.x i R) j
  | 2 => A.dy i R j * raw A.fo i R j

/-- The same by the row's number, zero past the last row. -/
def partN (k : Fin 3) (R : ℕ) (j : Fin 2048) : EReal := if h : R < n1 then A.part i ⟨R, h⟩ k j else 0

end Arr

end Cert.Row

end
-- ==== Proof.TripMath.lean ====
/-
  One trip at the extended reals: the vectors of `Trip.lean`, read at an index, are the row mathematics of
  `RowSpec.lean` of the trip's 32 rows.
-/
module

public import proofs.«01_k».proof.Proof.Trip
public import proofs.«01_k».proof.Proof.RowSpec

@[expose] public section

set_option maxRecDepth 16384

noncomputable section

namespace Cert.KernelIdeal.Body

open Idealize.ShloMosaic Idealize.SL.Sem Cert.KernelIdeal.Gen Cert.Row
open scoped BigOperators

/-- Row `r` of 16 channel blocks, as one row of 2048 columns. -/
def rowOf (f : Fin 16 → FVec Ideal S32x128 .f32) (r : Fin 32) : Fin 2048 → EReal := fun j => f (hi j) (ix2 r (lo j))

theorem apply_eq_rowOf (f : Fin 16 → FVec Ideal S32x128 .f32) (r : Fin 32) (b : Fin 16) (l : Fin 128) :
    f b (ix2 r l) = rowOf f r (col b l) := by
  simp only [rowOf, hi_col, lo_col]

theorem zero_bits : Ideal.ofBits .f32 0x00000000#32 = 0 := by simp [Ideal.ofBits, Ideal.ieee]

/-- The chain of additions is the sum over the channel blocks. -/
theorem chain_apply (f : Fin 16 → FVec Ideal S32x128 .f32) (i : S32x128.Idx) : chain f i = ∑ b : Fin 16, f b i := by
  show Ideal.ofBits .f32 0x00000000#32 + f 0 i + f 1 i + f 2 i + f 3 i + f 4 i + f 5 i + f 6 i + f 7 i + f 8 i + f 9 i + f 10 i
    + f 11 i + f 12 i + f 13 i + f 14 i + f 15 i = _
  rw [zero_bits, zero_add]
  simp only [Fin.sum_univ_succ, Fin.sum_univ_zero, add_zero, add_assoc]
  rfl

/-- The row mean is the mean of the row. -/
theorem rowMean_apply (f : Fin 16 → FVec Ideal S32x128 .f32) (r : Fin 32) : rowMean f (ix2 r 0) = mean (rowOf f r) := by
  unfold rowMean
  pointwise
  simp only [chain_apply]
  rw [sum_cols fun b l => f b (ix2 r l)]
  rfl

theorem rowCol_apply (v : FVec Ideal S32x1 .f32) (r : Fin 32) (l : Fin 128) : rowCol v (ix2 r l) = v (ix2 r 0) := by
  pointwise [rowCol]

/-- Every eighth row is summed. -/
theorem sub8_apply (v : FVec Ideal S32x128 .f32) (s : Fin 8) (l : Fin 128) :
    sub8 v (ix2 s l) = ∑ a : Fin 4, v (ix2 ⟨a.val * 8 + s.val, by have := a.isLt; have := s.isLt; omega⟩ l) := by
  unfold sub8
  pointwise

/-! ### The vectors of a trip, row by row -/

namespace Loads

variable (L : Loads Ideal) (r : Fin 32)

/-- The modulation scale, as one row. -/
def msRow (j : Fin 2048) : EReal := L.ms (hi j) (ix3 0 0 (lo j))

theorem mu_apply : L.mu (ix2 r 0) = mean (rowOf L.x r) := rowMean_apply _ r

theorem xm_row : rowOf (L.xmOf L.mu) r = fun j => rowOf L.x r j - mean (rowOf L.x r) := by
  funext j
  show L.x (hi j) (ix2 r (lo j)) - rowCol L.mu (ix2 r (lo j)) = _
  rw [rowCol_apply, mu_apply]
  rfl

theorem rstd_apply : L.rstd (ix2 r 0) = Row.rstd (rowOf L.x r) := by
  show Ideal.rsqrt (rowMean (fun b => mulf (L.xmOf L.mu b) (L.xmOf L.mu b)) (ix2 r 0) + eps) = _
  rw [rowMean_apply]
  show Ideal.rsqrt (mean (fun j => rowOf (L.xmOf L.mu) r j * rowOf (L.xmOf L.mu) r j) + eps) = _
  rw [xm_row]
  rfl

theorem xhat_row : rowOf (L.xhatOf L.mu L.rstd) r = Row.xhat (rowOf L.x r) := by
  funext j
  show rowOf (L.xmOf L.mu) r j * rowCol L.rstd (ix2 r (lo j)) = _
  rw [rowCol_apply, rstd_apply, xm_row]
  rfl

theorem g_row : rowOf L.g r = Row.g (rowOf L.dh r) L.msRow := by
  funext j
  unfold rowOf Loads.g
  pointwise
  rfl

theorem gm_apply : L.gm (ix2 r 0) = mean (Row.g (rowOf L.dh r) L.msRow) := by
  rw [← g_row]
  exact rowMean_apply _ r

theorem gxm_apply : L.gxm (ix2 r 0)
    = mean (fun j => Row.g (rowOf L.dh r) L.msRow j * Row.xhat (rowOf L.x r) j) := by
  rw [← g_row, ← xhat_row]
  exact rowMean_apply _ r

/-- The trip's `dx` is the row mathematics' `dx` of its rows. -/
theorem dx_apply (b : Fin 16) (l : Fin 128) :
    L.dxOf L.mu L.rstd L.gm L.gxm b (ix3 0 r l)
      = Row.dx (rowOf L.x r) (rowOf L.dh r) (rowOf L.dy r) L.msRow (col b l) := by
  have h : L.dxOf L.mu L.rstd L.gm L.gxm b (ix3 0 r l)
      = L.dy b (ix2 r l) + rowCol L.rstd (ix2 r l) * (L.g b (ix2 r l) - rowCol L.gm (ix2 r l)
        - L.xhatOf L.mu L.rstd b (ix2 r l) * rowCol L.gxm (ix2 r l)) := by
    unfold dxOf
    pointwise
  rw [h, rowCol_apply, rowCol_apply, rowCol_apply, rstd_apply, gm_apply, gxm_apply, apply_eq_rowOf L.dy, apply_eq_rowOf L.g,
    apply_eq_rowOf (L.xhatOf L.mu L.rstd), xhat_row, g_row]
  rfl

/-- `f_out`, row by row. -/
def foRow (j : Fin 2048) : EReal := L.fo (hi j) (ix3 0 r (lo j))

/-- The three quantities whose column sums the kernel takes, of one row. -/
def part (k : Fin 3) (j : Fin 2048) : EReal :=
  match k with
  | 0 => rowOf L.dh r j
  | 1 => rowOf L.dh r j * Row.xhat (rowOf L.x r) j
  | 2 => rowOf L.dy r j * L.foRow r j

/-- A trip's term of running sum `k`. -/
def term (k : Fin 3) (b : Fin 16) : FVec Ideal S8x128 .f32 :=
  match k with
  | 0 => L.term0 b
  | 1 => L.term1Of L.mu L.rstd b
  | 2 => L.term2 b

theorem term_apply (k : Fin 3) (b : Fin 16) (s : Fin 8) (l : Fin 128) :
    L.term k b (ix2 s l) = ∑ a : Fin 4, L.part ⟨a.val * 8 + s.val, by have := a.isLt; have := s.isLt; omega⟩ k (col b l) := by
  fin_cases k
  · refine (sub8_apply _ _ _).trans (Finset.sum_congr rfl fun a _ => ?_)
    exact apply_eq_rowOf L.dh _ b l
  · refine (sub8_apply _ _ _).trans (Finset.sum_congr rfl fun a _ => ?_)
    show L.dh b (ix2 _ l) * L.xhatOf L.mu L.rstd b (ix2 _ l) = _
    rw [apply_eq_rowOf L.dh, apply_eq_rowOf (L.xhatOf L.mu L.rstd), xhat_row]
    rfl
  · refine (sub8_apply _ _ _).trans (Finset.sum_congr rfl fun a _ => ?_)
    show L.dy b (ix2 _ l) * _ = _
    rw [apply_eq_rowOf L.dy]
    show _ = _ * L.foRow _ _
    unfold foRow
    rw [hi_col, lo_col]
    congr 1
    pointwise

end Loads

end Cert.KernelIdeal.Body

end
-- ==== Proof.BlockMath.lean ====
/-
  The row loops at the extended reals, over an input block: a trip's loads are 32 rows of the block, what it stores to
  `dx` is the block's `dx` at those rows, and what it adds to the running sums is the rows' parts. Four trips make one
  loop: its `dx` pieces all restrict the block's `dx`, and its running sums grow by the sums over 4 · 4 rows per
  sublane.
-/
module

public import proofs.«01_k».proof.Proof.LoopLoads
public import proofs.«01_k».proof.Proof.TripMath
public import Idealize.ShloMosaic.Lib.Writes

@[expose] public section

set_option maxRecDepth 16384

noncomputable section

namespace Cert.KernelIdeal.Body

open Idealize.ShloMosaic Idealize.SL.Sem Cert.KernelIdeal.Gen Cert.Row
open scoped BigOperators

/-! ### A trip's rows -/

/-- The rows a trip loads are rows `r0 + r` of the block `B`. -/
structure Reads (L : Loads Ideal) (B : Arr 1 512) (r0 : ℕ) (hr : r0 + 32 ≤ 512) : Prop where
  xc : ∀ b (r : Fin 32) l, L.xc b (ix3 0 r l) = B.xc (ix3 0 ⟨r0 + r.val, by have := r.isLt; omega⟩ (col b l))
  xs : ∀ (r : Fin 32) l, L.xs (ix3 0 r l) = B.xs (ix3 0 ⟨r0 + r.val, by have := r.isLt; omega⟩ l)
  fo : ∀ b (r : Fin 32) l, L.fo b (ix3 0 r l) = B.fo (ix3 0 ⟨r0 + r.val, by have := r.isLt; omega⟩ (col b l))
  dyc : ∀ b (r : Fin 32) l, L.dyc b (ix3 0 r l) = B.dyc (ix3 0 ⟨r0 + r.val, by have := r.isLt; omega⟩ (col b l))
  dys : ∀ (r : Fin 32) l, L.dys (ix3 0 r l) = B.dys (ix3 0 ⟨r0 + r.val, by have := r.isLt; omega⟩ l)
  dhc : ∀ b (r : Fin 32) l, L.dhc b (ix3 0 r l) = B.dhc (ix3 0 ⟨r0 + r.val, by have := r.isLt; omega⟩ (col b l))
  dhs : ∀ (r : Fin 32) l, L.dhs (ix3 0 r l) = B.dhs (ix3 0 ⟨r0 + r.val, by have := r.isLt; omega⟩ l)
  ms : ∀ b l, L.ms b (ix3 0 0 l) = B.ms (ix3 0 0 (col b l))

namespace Reads

variable {L : Loads Ideal} {B : Arr 1 512} {r0 : ℕ} {hr : r0 + 32 ≤ 512} (h : Reads L B r0 hr) (r : Fin 32)
include h

theorem x_row : rowOf L.x r = B.x 0 ⟨r0 + r.val, by have := r.isLt; omega⟩ := by
  funext j
  have e : L.x (hi j) (ix2 r (lo j)) = L.xc (hi j) (ix3 0 r (lo j)) * L.xs (ix3 0 r (hi j)) := by
    pointwise [Loads.x, scaleCol]
  show L.x (hi j) (ix2 r (lo j)) = _
  rw [e, h.xc, h.xs, col_hi_lo]
  rfl

theorem dy_row : rowOf L.dy r = B.dy 0 ⟨r0 + r.val, by have := r.isLt; omega⟩ := by
  funext j
  have e : L.dy (hi j) (ix2 r (lo j)) = L.dyc (hi j) (ix3 0 r (lo j)) * L.dys (ix3 0 r (hi j)) := by
    pointwise [Loads.dy, scaleCol]
  show L.dy (hi j) (ix2 r (lo j)) = _
  rw [e, h.dyc, h.dys, col_hi_lo]
  rfl

theorem dh_row : rowOf L.dh r = B.dh 0 ⟨r0 + r.val, by have := r.isLt; omega⟩ := by
  funext j
  have e : L.dh (hi j) (ix2 r (lo j)) = L.dhc (hi j) (ix3 0 r (lo j)) * L.dhs (ix3 0 r (hi j)) := by
    pointwise [Loads.dh, scaleCol]
  show L.dh (hi j) (ix2 r (lo j)) = _
  rw [e, h.dhc, h.dhs, col_hi_lo]
  rfl

theorem ms_row : L.msRow = B.m 0 := by
  funext j
  show L.ms (hi j) (ix3 0 0 (lo j)) = _
  rw [h.ms, col_hi_lo]
  rfl

theorem fo_row : L.foRow r = raw B.fo 0 ⟨r0 + r.val, by have := r.isLt; omega⟩ := by
  funext j
  show L.fo (hi j) (ix3 0 r (lo j)) = _
  rw [h.fo, col_hi_lo]
  rfl

theorem dx_row (b : Fin 16) (l : Fin 128) :
    L.dxOf L.mu L.rstd L.gm L.gxm b (ix3 0 r l) = B.dx 0 ⟨r0 + r.val, by have := r.isLt; omega⟩ (col b l) := by
  rw [Loads.dx_apply, h.x_row, h.dh_row, h.dy_row, h.ms_row]
  rfl

theorem part_row (k : Fin 3) (j : Fin 2048) : L.part r k j = B.partN 0 k (r0 + r.val) j := by
  have hlt : r0 + r.val < 512 := by have := r.isLt; omega
  unfold Arr.partN
  rw [dif_pos hlt]
  unfold Loads.part Arr.part
  rw [h.x_row, h.dh_row, h.dy_row, h.fo_row]
  fin_cases k <;> rfl

end Reads

/-! ### What a trip stores -/

/-- The block's `dx`, as an array. -/
def dxArr (B : Arr 1 512) : S1x512x2048.Idx → EReal := fun y => B.dx (y 0) (y 1) (y 2)

/-- The piece of channel block `b` of `dx`. -/
def dxPiece (off : Fin 16 → Fin 3 → ℕ) (hoff : ∀ b a, off b a + S1x32x128.size a ≤ S1x512x2048.size a) (L : Loads Ideal)
    (b : Fin 16) : View.Piece (Elt Ideal) S1x512x2048 .bf16 :=
  ⟨Rect.unit (off b) S1x32x128.size (hoff b), L.dxOf L.mu L.rstd L.gm L.gxm b⟩

theorem dxPieces_eq (off : Fin 16 → Fin 3 → ℕ) (hoff : ∀ b a, off b a + S1x32x128.size a ≤ S1x512x2048.size a) (L : Loads Ideal) :
    dxPieces off hoff L L.mu L.rstd L.gm L.gxm = (List.finRange 16).reverse.map (dxPiece off hoff L) := (rfl)

/-- What a trip stores to `dx` restricts the block's `dx`. -/
theorem trip_dx {L : Loads Ideal} {B : Arr 1 512} {r0 : ℕ} {hr : r0 + 32 ≤ 512} (h : Reads L B r0 hr)
    (al : Memref sig .tc .vmem S3x8x2048 .f32) (f : BufTy.Contents (Elt Ideal) al.view.ty) :
    ∀ p ∈ (trip (offs r0) (inb_offs hr) L al f).1, ∀ x : p.1.shape.Idx, p.2 x = dxArr B (p.1.emb x) := by
  intro p hp
  change p ∈ dxPieces (offs r0) (inb_offs hr) L L.mu L.rstd L.gm L.gxm at hp
  rw [dxPieces_eq, List.mem_map] at hp
  obtain ⟨b, -, rfl⟩ := hp
  intro (x : S1x32x128.Idx)
  show L.dxOf L.mu L.rstd L.gm L.gxm b x = _
  idx_vars x
  have e : (Rect.unit (offs r0 b) S1x32x128.size (inb_offs hr b) : Rect S1x512x2048).emb (ix3 x0 x1 x2)
      = ix3 0 ⟨r0 + x1.val, by have := x1.isLt; omega⟩ (col b x2) := by
    funext a
    apply Fin.ext
    rw [Rect.emb_apply]
    have := x0.isLt
    fin_cases a
    · show 0 + 1 * x0.val = 0; omega
    · show r0 + 1 * x1.val = r0 + x1.val; omega
    · show 128 * b.val + 1 * x2.val = 128 * b.val + x2.val; omega
  obtain rfl : x0 = 0 := Subsingleton.elim _ _
  rw [h.dx_row]
  exact (congrArg (dxArr B) e).symm

/-- The piece of channel block `b` of running sum `k`. -/
def accPiece (al : Memref sig .tc .vmem S3x8x2048 .f32) (f : BufTy.Contents (Elt Ideal) al.view.ty) (L : Loads Ideal)
    (b : Fin 16) (k : Fin 3) : View.Piece (Elt Ideal) S3x8x2048 .f32 :=
  ⟨accRect k b, accVal (View.readAt (Elt Ideal) al.view (accRect k b).toLoadRect f) (L.term k b)⟩

theorem accPieces_eq (al : Memref sig .tc .vmem S3x8x2048 .f32) (f : BufTy.Contents (Elt Ideal) al.view.ty) (L : Loads Ideal) :
    accPieces al f L L.mu L.rstd = (List.finRange 16).reverse.flatMap fun b => [accPiece al f L b 2, accPiece al f L b 1, accPiece al f L b 0] := (rfl)

theorem accRect_emb (k : Fin 3) (b : Fin 16) (x0 : Fin 1) (x1 : Fin 8) (x2 : Fin 128) :
    (accRect k b).emb (ix3 x0 x1 x2) = ix3 k x1 (col b x2) := by
  funext a
  apply Fin.ext
  rw [Rect.emb_apply]
  have := x0.isLt
  fin_cases a
  · show k.val + 1 * x0.val = k.val; omega
  · show 0 + 1 * x1.val = x1.val; omega
  · show 128 * b.val + 1 * x2.val = 128 * b.val + x2.val; omega

/-- A trip adds to each entry of the running sums the parts of four of its rows. -/
theorem trip_acc {L : Loads Ideal} {B : Arr 1 512} {r0 : ℕ} {hr : r0 + 32 ≤ 512} (h : Reads L B r0 hr)
    (al : Memref sig .tc .vmem S3x8x2048 .f32) (f : BufTy.Contents (Elt Ideal) al.view.ty) (k : Fin 3) (s : Fin 8) (j : Fin 2048) :
    al.view.read (Elt Ideal) (al.view.writes (Elt Ideal) f (trip (offs r0) (inb_offs hr) L al f).2) (ix3 k s j)
      = (al.view.read (Elt Ideal) f (ix3 k s j) : EReal) + ∑ a : Fin 4, B.partN 0 k (r0 + (a.val * 8 + s.val)) j := by
  change al.view.read (Elt Ideal) (al.view.writes (Elt Ideal) f (accPieces al f L L.mu L.rstd)) (ix3 k s j) = _
  rw [accPieces_eq]
  refine (View.read_writes_apply_of_pieces (Val := Elt Ideal) al.view f (fun y : S3x8x2048.Idx =>
    (al.view.read (Elt Ideal) f y : EReal) + ∑ a : Fin 4, B.partN 0 (y 0) (r0 + (a.val * 8 + (y 1).val)) (y 2)) _ ?_ _ ?_).trans rfl
  · intro p hp
    rw [List.mem_flatMap] at hp
    obtain ⟨b, -, hp⟩ := hp
    have main : ∀ k : Fin 3, ∀ x : S1x8x128.Idx, (accPiece al f L b k).2 x
        = (al.view.read (Elt Ideal) f ((accRect k b).emb x) : EReal)
          + ∑ a : Fin 4, B.partN 0 ((accRect k b).emb x 0) (r0 + (a.val * 8 + ((accRect k b).emb x 1).val)) ((accRect k b).emb x 2) := by
      intro k x
      have e : (accPiece al f L b k).2 x = (al.view.read (Elt Ideal) f ((accRect k b).emb x) : EReal) + L.term k b (ix2 (x 1) (x 2)) := by
        show accVal _ (L.term k b) x = _
        idx_vars x
        obtain rfl : x0 = 0 := Subsingleton.elim _ _
        unfold accVal
        pointwise
        rfl
      rw [e]
      idx_vars x
      rw [accRect_emb]
      refine congrArg _ ((L.term_apply k b x1 x2).trans (Finset.sum_congr rfl fun a _ => ?_))
      exact h.part_row _ k (col b x2)
    simp only [List.mem_cons, List.not_mem_nil, or_false] at hp
    rcases hp with rfl | rfl | rfl
    · exact main 2
    · exact main 1
    · exact main 0
  · refine ⟨accPiece al f L (hi j) k, ?_, ?_⟩
    · rw [List.mem_flatMap]
      refine ⟨hi j, by simp, ?_⟩
      fin_cases k <;> simp
    · have : (accRect k (hi j)).emb (ix3 0 s (lo j)) = ix3 k s j := by rw [accRect_emb, col_hi_lo]
      rw [← this]
      exact (accRect k (hi j)).idx_mem _

/-! ### The loads of a trip, cut out of the blocks -/

section

variable (arg2 : Memref sig .tc .vmem S1x512x2048 .fp8e4m3) (arg3 : Memref sig .tc .vmem S1x512x16 .f32) (arg4 : Memref sig .tc .vmem S1x512x2048 .bf16) (arg5 : Memref sig .tc .vmem S1x512x2048 .fp8e5m2) (arg6 : Memref sig .tc .vmem S1x512x16 .f32) (arg7 : Memref sig .tc .vmem S1x512x2048 .fp8e5m2) (arg8 : Memref sig .tc .vmem S1x512x16 .f32) (arg9 : Memref sig .tc .vmem S1x1x2048 .f32)
  (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty)

/-- The block the eight input memrefs hold. -/
def blkOf : Arr 1 512 where
  xc := arg2.view.read (Elt Ideal) X_arg2
  xs := arg3.view.read (Elt Ideal) X_arg3
  fo := arg4.view.read (Elt Ideal) X_arg4
  dyc := arg5.view.read (Elt Ideal) X_arg5
  dys := arg6.view.read (Elt Ideal) X_arg6
  dhc := arg7.view.read (Elt Ideal) X_arg7
  dhs := arg8.view.read (Elt Ideal) X_arg8
  ms := arg9.view.read (Elt Ideal) X_arg9

theorem idx_data {r0 : ℕ} (hr : r0 + 32 ≤ 512) (b : Fin 16) (r : Fin 32) (l : Fin 128) :
    (Rect.unit (offs r0 b) S1x32x128.size (inb_offs hr b) : Rect S1x512x2048).toLoadRect.idx (ix3 0 r l)
      = ix3 0 ⟨r0 + r.val, by have := r.isLt; omega⟩ (col b l) := by
  funext a
  apply Fin.ext
  rw [LoadRect.idx_apply]
  fin_cases a
  · rfl
  · show r0 + 1 * r.val = r0 + r.val; omega
  · show 128 * b.val + 1 * l.val = 128 * b.val + l.val; omega

theorem idx_scale {r0 : ℕ} (hr : r0 + 32 ≤ 512) (r : Fin 32) (l : Fin 16) :
    (Rect.unit (offS r0) S1x32x16.size (inb_offS hr) : Rect S1x512x16).toLoadRect.idx (ix3 0 r l)
      = ix3 0 ⟨r0 + r.val, by have := r.isLt; omega⟩ l := by
  funext a
  apply Fin.ext
  rw [LoadRect.idx_apply]
  fin_cases a
  · rfl
  · show r0 + 1 * r.val = r0 + r.val; omega
  · show 0 + 1 * l.val = l.val; omega

theorem idx_ms (b : Fin 16) (l : Fin 128) :
    (Rect.unit ![0, 0, 128 * b.val] S1x1x128.size (inb_ms b) : Rect S1x1x2048).toLoadRect.idx (ix3 0 0 l) = ix3 0 0 (col b l) := by
  funext a
  apply Fin.ext
  rw [LoadRect.idx_apply]
  fin_cases a
  · rfl
  · rfl
  · show 128 * b.val + 1 * l.val = 128 * b.val + l.val; omega

/-- The loads at row `r0` read rows `r0 + r` of the block. -/
theorem reads_loadsR {r0 : ℕ} (hr : r0 + 32 ≤ 512) : Reads (loadsR arg2 arg3 arg4 arg5 arg6 arg7 arg8 arg9 X_arg2 X_arg3 X_arg4 X_arg5 X_arg6 X_arg7 X_arg8 X_arg9 hr) (blkOf arg2 arg3 arg4 arg5 arg6 arg7 arg8 arg9 X_arg2 X_arg3 X_arg4 X_arg5 X_arg6 X_arg7 X_arg8 X_arg9) r0 hr where
  xc b r l := congrArg (arg2.view.read (Elt Ideal) X_arg2) (idx_data hr b r l)
  xs r l := congrArg (arg3.view.read (Elt Ideal) X_arg3) (idx_scale hr r l)
  fo b r l := congrArg (arg4.view.read (Elt Ideal) X_arg4) (idx_data hr b r l)
  dyc b r l := congrArg (arg5.view.read (Elt Ideal) X_arg5) (idx_data hr b r l)
  dys r l := congrArg (arg6.view.read (Elt Ideal) X_arg6) (idx_scale hr r l)
  dhc b r l := congrArg (arg7.view.read (Elt Ideal) X_arg7) (idx_data hr b r l)
  dhs r l := congrArg (arg8.view.read (Elt Ideal) X_arg8) (idx_scale hr r l)
  ms b l := congrArg (arg9.view.read (Elt Ideal) X_arg9) (idx_ms b l)

end

/-! ### Four trips -/

/-- The pieces the trips before `n` leave, last first: each trip's pieces in front, taken at the running sums the trips
    before it left over `G`. -/
structure IsLoop (L : ∀ {r : ℕ}, r + 32 ≤ 512 → Loads Ideal) (al : Memref sig .tc .vmem S3x8x2048 .f32)
    (G : BufTy.Contents (Elt Ideal) al.view.ty) (base : ℕ) (hb : base + 128 ≤ 512)
    (pb : ℕ → List (View.Piece (Elt Ideal) S1x512x2048 .bf16) × List (View.Piece (Elt Ideal) S3x8x2048 .f32)) : Prop where
  zero : pb 0 = ([], [])
  succ : ∀ (n : ℕ) (hn : n < 4), ∃ hr : 32 * n + base + 32 ≤ 512,
    pb (n + 1) = ((trip (offs (32 * n + base)) (inb_offs hr) (L hr) al (al.view.writes (Elt Ideal) G (pb n).2)).1 ++ (pb n).1,
      (trip (offs (32 * n + base)) (inb_offs hr) (L hr) al (al.view.writes (Elt Ideal) G (pb n).2)).2 ++ (pb n).2)

namespace IsLoop

variable {L : ∀ {r : ℕ}, r + 32 ≤ 512 → Loads Ideal} {al : Memref sig .tc .vmem S3x8x2048 .f32}
  {G : BufTy.Contents (Elt Ideal) al.view.ty} {base : ℕ} {hb : base + 128 ≤ 512}
  {pb : ℕ → List (View.Piece (Elt Ideal) S1x512x2048 .bf16) × List (View.Piece (Elt Ideal) S3x8x2048 .f32)}
  (h : IsLoop L al G base hb pb) {B : Arr 1 512} (hB : ∀ {r : ℕ} (hr : r + 32 ≤ 512), Reads (L hr) B r hr)
include h hB

/-- Every piece a loop stores to `dx` restricts the block's `dx`. -/
theorem dx_pieces : ∀ n ≤ 4, ∀ p ∈ (pb n).1, ∀ x : p.1.shape.Idx, p.2 x = dxArr B (p.1.emb x)
  | 0, _, p, hp => by rw [h.zero] at hp; exact absurd hp List.not_mem_nil
  | n + 1, hn, p, hp => by
    obtain ⟨hr, e⟩ := h.succ n (by omega)
    rw [e] at hp
    rcases List.mem_append.mp hp with hp | hp
    · exact trip_dx (hB hr) _ _ p hp
    · exact dx_pieces n (by omega) p hp

/-- What the running sums hold after `n` trips. -/
theorem acc_read (k : Fin 3) (s : Fin 8) (j : Fin 2048) : ∀ n ≤ 4,
    al.view.read (Elt Ideal) (al.view.writes (Elt Ideal) G (pb n).2) (ix3 k s j)
      = (al.view.read (Elt Ideal) G (ix3 k s j) : EReal)
        + ∑ t ∈ Finset.range n, ∑ a : Fin 4, B.partN 0 k (32 * t + base + (a.val * 8 + s.val)) j
  | 0, _ => by
    rw [h.zero, Finset.sum_range_zero]
    exact (add_zero (al.view.read (Elt Ideal) G (ix3 k s j) : EReal)).symm
  | n + 1, hn => by
    obtain ⟨hr, e⟩ := h.succ n (by omega)
    rw [e, View.writes_append, trip_acc (hB hr), acc_read k s j n (by omega), Finset.sum_range_succ, ← add_assoc]

end IsLoop

end Cert.KernelIdeal.Body

end
-- ==== Proof.Sums.lean ====
/-
  What the kernel's body computes besides the row loops, at the extended reals: the sums over the 128 rows of a token block,
  and the running `dmod`, one row of which grows by each token block's sum.
-/
module

public import proofs.«01_k».proof.Proof.BlockMath
public import proofs.«01_k».proof.Proof.LoopPieces
public import Idealize.ShloMosaic.Lib.Pipeline.Value

@[expose] public section

set_option maxRecDepth 16384

noncomputable section

namespace Cert.KernelIdeal.Body

open Idealize.ShloMosaic Idealize.SL.Sem Cert.KernelIdeal.Gen Cert.Row
open scoped BigOperators

theorem isLoop (base : ℕ) (hb : base + 128 ≤ 512) (L : ∀ {r : ℕ}, r + 32 ≤ 512 → Loads Ideal)
    (al : Memref sig .tc .vmem S3x8x2048 .f32) (G : BufTy.Contents (Elt Ideal) al.view.ty) :
    IsLoop L al G base hb (pcs base L al G) where
  zero := rfl
  succ n hn := ⟨by omega, pcs_succ base L al G n (by omega)⟩

/-! ### The accumulator after a loop -/

/-- The accumulator is cleared first. -/
def zeroAcc : List (View.Piece (Elt Ideal) S3x8x2048 .f32) :=
  [⟨Rect.unit ![0, 0, 0] S3x8x2048.size inb_S3x8x2048_S3x8x2048_0_0_0, k0_pay1062 (F := Ideal)⟩]

theorem inb_accRow (k : Fin 3) : ∀ a, (![k.val, 0, 0] : Fin 3 → ℕ) a + S1x8x2048.size a ≤ S3x8x2048.size a := by
  fin_cases k <;> decide

/-- Row `k` of the accumulator. -/
abbrev accRowRect (k : Fin 3) : Rect S3x8x2048 := Rect.unit ![k.val, 0, 0] S1x8x2048.size (inb_accRow k)

/-- What row `k` of the accumulator holds after `n` trips, eight partial sums per column. -/
def accRow (base : ℕ) (L : ∀ {r : ℕ}, r + 32 ≤ 512 → Loads Ideal) (al : Memref sig .tc .vmem S3x8x2048 .f32) (n : ℕ) (k : Fin 3) :
    FVec Ideal S1x8x2048 .f32 :=
  al.view.readCov ((pcs base L al (al.view.writes (Elt Ideal) al.view.junk zeroAcc) n).2 ++ zeroAcc)
    (accRowRect k).toLoadRect

theorem accRow_apply (base : ℕ) (hb : base + 128 ≤ 512) (L : ∀ {r : ℕ}, r + 32 ≤ 512 → Loads Ideal)
    (al : Memref sig .tc .vmem S3x8x2048 .f32) {B : Arr 1 512} (hB : ∀ {r : ℕ} (hr : r + 32 ≤ 512), Reads (L hr) B r hr)
    (k : Fin 3) (s : Fin 8) (j : Fin 2048) :
    accRow base L al 4 k (ix3 0 s j) = ∑ t ∈ Finset.range 4, ∑ a : Fin 4, B.partN 0 k (32 * t + base + (a.val * 8 + s.val)) j := by
  have e : (accRowRect k).toLoadRect.idx (ix3 0 s j) = ix3 k s j := by
    funext a
    apply Fin.ext
    rw [LoadRect.idx_apply]
    fin_cases a
    · show k.val + 1 * 0 = k.val; omega
    · show 0 + 1 * s.val = s.val; omega
    · show 0 + 1 * j.val = j.val; omega
  have z : al.view.read (Elt Ideal) (al.view.writes (Elt Ideal) al.view.junk zeroAcc) (ix3 k s j) = (0 : EReal) := by
    rw [View.read_writes_junk_apply_eq_canon]
    unfold zeroAcc
    rw [View.canon_unit_zero]
    · show Scalar.ofBits (F := Ideal) .f32 0x00000000#32 = (0 : EReal)
      exact Ideal.ofBits_zero_f32
    · funext a; fin_cases a <;> rfl
  show al.view.read (Elt Ideal) (al.view.writes (Elt Ideal) al.view.junk (_ ++ zeroAcc)) ((accRowRect k).toLoadRect.idx (ix3 0 s j)) = _
  rw [e, View.writes_append, (isLoop base hb L al _).acc_read hB k s j 4 le_rfl, z, zero_add]

theorem sum_range_mul (f : ℕ → EReal) (m n : ℕ) :
    ∑ q ∈ Finset.range (m * n), f q = ∑ t ∈ Finset.range m, ∑ r ∈ Finset.range n, f (n * t + r) := by
  induction m with
  | zero => simp
  | succ m ih => rw [Nat.succ_mul, Finset.sum_range_add, ih, Finset.sum_range_succ, Nat.mul_comm m n]

/-- Eight partial sums of four rows of four trips are the sum over 128 rows. -/
theorem sum_rows (f : ℕ → EReal) (base : ℕ) :
    ∑ s : Fin 8, ∑ t ∈ Finset.range 4, ∑ a : Fin 4, f (32 * t + base + (a.val * 8 + s.val)) = ∑ q ∈ Finset.range 128, f (base + q) := by
  rw [show (128 : ℕ) = 4 * 32 from rfl, sum_range_mul, Finset.sum_comm]
  refine Finset.sum_congr rfl fun t _ => ?_
  rw [show (32 : ℕ) = 4 * 8 from rfl, sum_range_mul, Finset.sum_comm, Finset.sum_range]
  refine Finset.sum_congr rfl fun a _ => ?_
  rw [Finset.sum_range]
  refine Finset.sum_congr rfl fun s _ => congrArg f ?_
  omega

/-- The sums over the 128 rows from `base`. -/
theorem accRow_sum (base : ℕ) (hb : base + 128 ≤ 512) (L : ∀ {r : ℕ}, r + 32 ≤ 512 → Loads Ideal)
    (al : Memref sig .tc .vmem S3x8x2048 .f32) {B : Arr 1 512} (hB : ∀ {r : ℕ} (hr : r + 32 ≤ 512), Reads (L hr) B r hr)
    (k : Fin 3) (j : Fin 2048) :
    ∑ s : Fin 8, accRow base L al 4 k (ix3 0 s j) = ∑ q ∈ Finset.range 128, B.partN 0 k (base + q) j := by
  rw [← sum_rows (fun R => B.partN 0 k R j) base]
  exact Finset.sum_congr rfl fun s _ => accRow_apply base hb L al hB k s j

/-- The four loops' accumulators after their trips. -/
def accs (L : ∀ {r : ℕ}, r + 32 ≤ 512 → Loads Ideal) (al0 al1 al2 al3 : Memref sig .tc .vmem S3x8x2048 .f32) (n0 n1 n2 n3 : ℕ) :
    ℕ → Fin 3 → FVec Ideal S1x8x2048 .f32
  | 0, k => accRow 0 L al0 n0 k
  | 1, k => accRow 128 L al1 n1 k
  | 2, k => accRow 256 L al2 n2 k
  | _, k => accRow 384 L al3 n3 k

/-- The sum over the rows of token block `n` of a block. -/
def blkSum (B : Arr 1 512) (n : ℕ) (k : Fin 3) (j : Fin 2048) : EReal := ∑ q ∈ Finset.range 128, B.partN 0 k (128 * n + q) j

theorem accs_sum (L : ∀ {r : ℕ}, r + 32 ≤ 512 → Loads Ideal) (al0 al1 al2 al3 : Memref sig .tc .vmem S3x8x2048 .f32)
    {n0 n1 n2 n3 : ℕ} (h0 : n0 = 4) (h1 : n1 = 4) (h2 : n2 = 4) (h3 : n3 = 4)
    {B : Arr 1 512} (hB : ∀ {r : ℕ} (hr : r + 32 ≤ 512), Reads (L hr) B r hr) (n : ℕ) (hn : n < 4) (k : Fin 3) (j : Fin 2048) :
    ∑ s : Fin 8, accs L al0 al1 al2 al3 n0 n1 n2 n3 n k (ix3 0 s j) = blkSum B n k j := by
  subst h0 h1 h2 h3
  unfold blkSum
  match n, hn with
  | 0, _ => exact accRow_sum 0 (by omega) L al0 hB k j
  | 1, _ => exact accRow_sum 128 (by omega) L al1 hB k j
  | 2, _ => exact accRow_sum 256 (by omega) L al2 hB k j
  | 3, _ => exact accRow_sum 384 (by omega) L al3 hB k j

/-! ### The running `dmod` -/

theorem inb_row (k : Fin 3) : ∀ a, (![0, k.val, 0] : Fin 3 → ℕ) a + S1x1x2048.size a ≤ S1x3x2048.size a := by
  fin_cases k <;> decide

/-- Row `k` of `dmod`. -/
abbrev rowRect (k : Fin 3) : Rect S1x3x2048 := Rect.unit ![0, k.val, 0] S1x1x2048.size (inb_row k)

theorem rowRect_emb (k : Fin 3) (j : Fin 2048) : (rowRect k).emb (ix3 0 0 j) = ix3 0 k j := by
  funext a
  apply Fin.ext
  rw [Rect.emb_apply]
  fin_cases a
  · rfl
  · show k.val + 1 * 0 = k.val; omega
  · show 0 + 1 * j.val = j.val; omega

theorem addRow_apply (v : FVec Ideal S1x8x2048 .f32) (w : FVec Ideal S1x1x2048 .f32) (j : Fin 2048) :
    k0_pay1067 (F := Ideal) v w (ix3 0 0 j) = (w (ix3 0 0 j) + ∑ s : Fin 8, v (ix3 0 s j) : EReal) := by
  pointwise [k0_pay1067, k0_pay1065]

theorem blkRow_apply (v : FVec Ideal S1x8x2048 .f32) (j : Fin 2048) :
    k0_pay1066 (F := Ideal) v (ix4 0 0 0 j) = (∑ s : Fin 8, v (ix3 0 s j) : EReal) := by
  pointwise [k0_pay1066, k0_pay1065]

/-- Row `k` of `dmod`, `w` before, stored with the eight partial sums `v` added. -/
def addRow (k : Fin 3) (v : FVec Ideal S1x8x2048 .f32) (w : FVec Ideal S1x1x2048 .f32) : View.Piece (Elt Ideal) S1x3x2048 .f32 :=
  ⟨rowRect k, k0_pay1067 (F := Ideal) v w⟩

theorem addRow_hit (k : Fin 3) (v : FVec Ideal S1x8x2048 .f32) (w : FVec Ideal S1x1x2048 .f32)
    (P : List (View.Piece (Elt Ideal) S1x3x2048 .f32)) (j : Fin 2048) :
    View.canon (addRow k v w :: P) (ix3 0 k j) = (w (ix3 0 0 j) + ∑ s : Fin 8, v (ix3 0 s j) : EReal) := by
  rw [← addRow_apply, ← rowRect_emb]
  exact View.canon_cons_emb (rowRect k) _ P _

theorem addRow_miss (k k' : Fin 3) (h : k' ≠ k) (v : FVec Ideal S1x8x2048 .f32) (w : FVec Ideal S1x1x2048 .f32)
    (P : List (View.Piece (Elt Ideal) S1x3x2048 .f32)) (j : Fin 2048) :
    View.canon (addRow k v w :: P) (ix3 0 k' j) = View.canon P (ix3 0 k' j) := by
  refine View.canon_cons_of_not_mem _ _ fun hm => h ?_
  have hm' : (ix3 0 k' j : S1x3x2048.Idx) ∈ (rowRect k).set := hm
  have h1 := Rect.mem_set_unit.mp hm' 1
  have h2 : k.val ≤ k'.val ∧ k'.val < k.val + 1 := h1
  apply Fin.ext
  omega

/-- What a load of row `k` of `dmod` reads after the stores `P`. -/
def readRow (v : View sig .tc .vmem S1x3x2048 .f32) (P : List (View.Piece (Elt Ideal) S1x3x2048 .f32)) (k : Fin 3) : FVec Ideal S1x1x2048 .f32 :=
  v.readCov P (rowRect k).toLoadRect

theorem readRow_apply (v : View sig .tc .vmem S1x3x2048 .f32) (P : List (View.Piece (Elt Ideal) S1x3x2048 .f32)) (k : Fin 3) (j : Fin 2048) :
    readRow v P k (ix3 0 0 j) = View.canon P (ix3 0 k j) := by
  unfold readRow
  rw [View.readCov_eq_canon']
  exact congrArg (View.canon P) (rowRect_emb k j)

/-- The stores of one token block: its partial sums added to the three rows. -/
def addBlock (a : View sig .tc .vmem S1x3x2048 .f32) (v : Fin 3 → FVec Ideal S1x8x2048 .f32)
    (P : List (View.Piece (Elt Ideal) S1x3x2048 .f32)) : List (View.Piece (Elt Ideal) S1x3x2048 .f32) :=
  addRow 2 (v 2) (readRow a (addRow 1 (v 1) (readRow a (addRow 0 (v 0) (readRow a P 0) :: P) 1) :: addRow 0 (v 0) (readRow a P 0) :: P) 2)
    :: addRow 1 (v 1) (readRow a (addRow 0 (v 0) (readRow a P 0) :: P) 1) :: addRow 0 (v 0) (readRow a P 0) :: P

theorem addBlock_canon (a : View sig .tc .vmem S1x3x2048 .f32) (v : Fin 3 → FVec Ideal S1x8x2048 .f32)
    (P : List (View.Piece (Elt Ideal) S1x3x2048 .f32)) (k : Fin 3) (j : Fin 2048) :
    (View.canon (addBlock a v P) (ix3 0 k j) : EReal) = View.canon P (ix3 0 k j) + ∑ s : Fin 8, v k (ix3 0 s j) := by
  have h10 : (1 : Fin 3) ≠ 0 := by decide
  have h20 : (2 : Fin 3) ≠ 0 := by decide
  have h21 : (2 : Fin 3) ≠ 1 := by decide
  unfold addBlock
  match k with
  | 0 => rw [addRow_miss 2 0 h20.symm, addRow_miss 1 0 h10.symm, addRow_hit, readRow_apply]
  | 1 => rw [addRow_miss 2 1 h21.symm, addRow_hit, readRow_apply, addRow_miss 0 1 h10]
  | 2 => rw [addRow_hit, readRow_apply, addRow_miss 1 2 h21, addRow_miss 0 2 h20]

/-- The stores to `dmod` of `n` token blocks from block `b`, with partial sums `v`, over the stores `P`. -/
def addRowsFrom (a : View sig .tc .vmem S1x3x2048 .f32) (v : ℕ → Fin 3 → FVec Ideal S1x8x2048 .f32) (b : ℕ)
    (P : List (View.Piece (Elt Ideal) S1x3x2048 .f32)) : ℕ → List (View.Piece (Elt Ideal) S1x3x2048 .f32)
  | 0 => P
  | n + 1 => addBlock a (v (b + n)) (addRowsFrom a v b P n)

/-- Each token block adds its partial sums to the three rows. -/
theorem addRowsFrom_canon (a : View sig .tc .vmem S1x3x2048 .f32) (v : ℕ → Fin 3 → FVec Ideal S1x8x2048 .f32) (b : ℕ)
    (P : List (View.Piece (Elt Ideal) S1x3x2048 .f32)) (k : Fin 3) (j : Fin 2048) : ∀ n,
    (View.canon (addRowsFrom a v b P n) (ix3 0 k j) : EReal)
      = View.canon P (ix3 0 k j) + ∑ q ∈ Finset.range n, ∑ s : Fin 8, v (b + q) k (ix3 0 s j)
  | 0 => by rw [Finset.sum_range_zero]; exact (add_zero (View.canon P (ix3 0 k j) : EReal)).symm
  | n + 1 => by
    rw [Finset.sum_range_succ, ← add_assoc, ← addRowsFrom_canon a v b P k j n]
    exact addBlock_canon a (v (b + n)) _ k j

/-! ### The token blocks' sums -/

theorem inb_blk (n : Fin 4) (k : Fin 3) : ∀ a, (![0, n.val, k.val, 0] : Fin 4 → ℕ) a + S1x1x1x2048.size a ≤ S1x4x3x2048.size a := by
  fin_cases n <;> fin_cases k <;> decide

/-- Row `k` of token block `n` stored with the eight partial sums `v` summed. -/
def blkRow (v : ℕ → Fin 3 → FVec Ideal S1x8x2048 .f32) (n : Fin 4) (k : Fin 3) : View.Piece (Elt Ideal) S1x4x3x2048 .f32 :=
  ⟨Rect.unit ![0, n.val, k.val, 0] S1x1x1x2048.size (inb_blk n k), k0_pay1066 (F := Ideal) (v n.val k)⟩

/-- The rows of the four token blocks, last first. -/
def blkRows (v : ℕ → Fin 3 → FVec Ideal S1x8x2048 .f32) : List (View.Piece (Elt Ideal) S1x4x3x2048 .f32) :=
  [blkRow v 3 2, blkRow v 3 1, blkRow v 3 0, blkRow v 2 2, blkRow v 2 1, blkRow v 2 0,
    blkRow v 1 2, blkRow v 1 1, blkRow v 1 0, blkRow v 0 2, blkRow v 0 1, blkRow v 0 0]

theorem blkRow_emb (v : ℕ → Fin 3 → FVec Ideal S1x8x2048 .f32) (n : Fin 4) (k : Fin 3) (j : Fin 2048) :
    (blkRow v n k).1.emb (ix4 0 0 0 j : S1x1x1x2048.Idx) = ix4 0 n k j := by
  unfold blkRow
  funext a
  apply Fin.ext
  rw [Rect.emb_apply]
  fin_cases a
  · rfl
  · show n.val + 1 * 0 = n.val; omega
  · show k.val + 1 * 0 = k.val; omega
  · show 0 + 1 * j.val = j.val; omega

/-- The sums of the eight partial sums, by the index in the block of the token blocks' sums. -/
def blkVal (v : ℕ → Fin 3 → FVec Ideal S1x8x2048 .f32) (y : S1x4x3x2048.Idx) : Elt Ideal .f32 :=
  (∑ s : Fin 8, v (y 1).val (y 2) (ix3 0 s (y 3)) : EReal)

theorem blkRows_canon (v : ℕ → Fin 3 → FVec Ideal S1x8x2048 .f32) (n : Fin 4) (k : Fin 3) (j : Fin 2048) :
    View.canon (blkRows v) (ix4 0 n k j) = (∑ s : Fin 8, v n.val k (ix3 0 s j) : EReal) := by
  refine View.canon_apply_of_pieces (Val := Elt Ideal) (blkVal v) _ ?_ (ix4 0 n k j) ?_
  · have one : ∀ n k, ∀ x : (blkRow v n k).1.shape.Idx, (blkRow v n k).2 x = blkVal v ((blkRow v n k).1.emb x) := by
      intro n k (x : S1x1x1x2048.Idx)
      have hx : x = ix4 0 0 0 (x 3) := by
        funext a
        fin_cases a
        · exact Subsingleton.elim (α := Fin 1) _ _
        · exact Subsingleton.elim (α := Fin 1) _ _
        · exact Subsingleton.elim (α := Fin 1) _ _
        · rfl
      rw [hx]
      exact (blkRow_apply (v n.val k) (x 3)).trans (congrArg (blkVal v) (blkRow_emb v n k (x 3))).symm
    intro p hp
    simp only [blkRows, List.mem_cons, List.not_mem_nil, or_false] at hp
    rcases hp with rfl | rfl | rfl | rfl | rfl | rfl | rfl | rfl | rfl | rfl | rfl | rfl <;> exact one _ _
  · refine ⟨blkRow v n k, ?_, ?_⟩
    · fin_cases n <;> fin_cases k <;> simp [blkRows]
    · rw [← blkRow_emb v n k j]
      exact (blkRow v n k).1.idx_mem _

end Cert.KernelIdeal.Body

end
-- ==== Proof.Body.lean ====
/-
  The kernel's body at a grid point, at the extended reals: what it leaves in `dx`, in the token blocks' sums and in the running
  `dmod`, from the blocks of the inputs it is given and, past an image's first point, from the `dmod` it finds.
-/
module

public import proofs.«01_k».proof.Proof.Kern.Value
public import proofs.«01_k».proof.Proof.Sums

@[expose] public section

set_option maxRecDepth 16384
set_option maxHeartbeats 1000000

noncomputable section

namespace Cert.KernelIdeal.Body

open Idealize.ShloMosaic Idealize.SL.Sem Cert.KernelIdeal.Gen Cert.Row
open scoped BigOperators

/-- The blocks of the inputs that a grid point is given, as arrays of one slab. -/
def blk (x0 : Vec Ideal S1x512x2048 .fp8e4m3) (x1 : Vec Ideal S1x512x16 .f32) (x2 : Vec Ideal S1x512x2048 .bf16) (x3 : Vec Ideal S1x512x2048 .fp8e5m2) (x4 : Vec Ideal S1x512x16 .f32) (x5 : Vec Ideal S1x512x2048 .fp8e5m2) (x6 : Vec Ideal S1x512x16 .f32) (x7 : Vec Ideal S1x1x2048 .f32) : Arr 1 512 :=
  ⟨x0, x1, x2, x3, x4, x5, x6, x7⟩

variable (c : Dev nD) (i : grid0.Coords) (arg2 : Memref sig .tc .vmem S1x512x2048 .fp8e4m3) (harg2 : arg2.IsWhole) (arg3 : Memref sig .tc .vmem S1x512x16 .f32) (harg3 : arg3.IsWhole) (arg4 : Memref sig .tc .vmem S1x512x2048 .bf16) (harg4 : arg4.IsWhole) (arg5 : Memref sig .tc .vmem S1x512x2048 .fp8e5m2) (harg5 : arg5.IsWhole) (arg6 : Memref sig .tc .vmem S1x512x16 .f32) (harg6 : arg6.IsWhole) (arg7 : Memref sig .tc .vmem S1x512x2048 .fp8e5m2) (harg7 : arg7.IsWhole) (arg8 : Memref sig .tc .vmem S1x512x16 .f32) (harg8 : arg8.IsWhole) (arg9 : Memref sig .tc .vmem S1x1x2048 .f32) (harg9 : arg9.IsWhole) (arg10 : Memref sig .tc .vmem S1x512x2048 .bf16) (harg10 : arg10.IsWhole) (arg11 : Memref sig .tc .vmem S1x3x2048 .f32) (harg11 : arg11.IsWhole) (arg12 : Memref sig .tc .vmem S1x4x3x2048 .f32) (harg12 : arg12.IsWhole) (alloca_r0 : Memref sig .tc .vmem S3x8x2048 .f32) (halloca_r0 : alloca_r0.IsWhole) (alloca_r1 : Memref sig .tc .vmem S3x8x2048 .f32) (halloca_r1 : alloca_r1.IsWhole) (alloca_r2 : Memref sig .tc .vmem S3x8x2048 .f32) (halloca_r2 : alloca_r2.IsWhole) (alloca_r3 : Memref sig .tc .vmem S3x8x2048 .f32) (halloca_r3 : alloca_r3.IsWhole)
  (x0 : Vec Ideal S1x512x2048 .fp8e4m3) (x1 : Vec Ideal S1x512x16 .f32) (x2 : Vec Ideal S1x512x2048 .bf16) (x3 : Vec Ideal S1x512x2048 .fp8e5m2) (x4 : Vec Ideal S1x512x16 .f32) (x5 : Vec Ideal S1x512x2048 .fp8e5m2) (x6 : Vec Ideal S1x512x16 .f32) (x7 : Vec Ideal S1x1x2048 .f32)

/-- What a trip from row `r` loads. -/
abbrev ld : ∀ {r : ℕ}, r + 32 ≤ 512 → Loads Ideal := fun hr => loadsR arg2 arg3 arg4 arg5 arg6 arg7 arg8 arg9 (harg2.unread x0) (harg3.unread x1) (harg4.unread x2) (harg5.unread x3) (harg6.unread x4) (harg7.unread x5) (harg8.unread x6) (harg9.unread x7) hr

theorem ld_reads {r : ℕ} (hr : r + 32 ≤ 512) : Reads (ld arg2 harg2 arg3 harg3 arg4 harg4 arg5 harg5 arg6 harg6 arg7 harg7 arg8 harg8 arg9 harg9 x0 x1 x2 x3 x4 x5 x6 x7 hr) (blk x0 x1 x2 x3 x4 x5 x6 x7) r hr := by
  have e : blkOf arg2 arg3 arg4 arg5 arg6 arg7 arg8 arg9 (harg2.unread x0) (harg3.unread x1) (harg4.unread x2) (harg5.unread x3) (harg6.unread x4) (harg7.unread x5) (harg8.unread x6) (harg9.unread x7) = blk x0 x1 x2 x3 x4 x5 x6 x7 := by
    unfold blkOf blk
    rw [harg2.read_unread, harg3.read_unread, harg4.read_unread, harg5.read_unread, harg6.read_unread, harg7.read_unread, harg8.read_unread, harg9.read_unread]
  rw [← e]
  exact reads_loadsR arg2 arg3 arg4 arg5 arg6 arg7 arg8 arg9 (harg2.unread x0) (harg3.unread x1) (harg4.unread x2) (harg5.unread x3) (harg6.unread x4) (harg7.unread x5) (harg8.unread x6) (harg9.unread x7) hr

/-- The four accumulators after the loops. -/
abbrev parts : ℕ → Fin 3 → FVec Ideal S1x8x2048 .f32 :=
  accs (ld arg2 harg2 arg3 harg3 arg4 harg4 arg5 harg5 arg6 harg6 arg7 harg7 arg8 harg8 arg9 harg9 x0 x1 x2 x3 x4 x5 x6 x7) alloca_r0 alloca_r1 alloca_r2 alloca_r3 (Scf.trips k0_t1_loop.lb k0_t1_loop.ub k0_t1_loop.st) (Scf.trips k0_t2_loop.lb k0_t2_loop.ub k0_t2_loop.st) (Scf.trips k0_t3_loop.lb k0_t3_loop.ub k0_t3_loop.st) (Scf.trips k0_t4_loop.lb k0_t4_loop.ub k0_t4_loop.st)

theorem parts_sum (n : ℕ) (hn : n < 4) (k : Fin 3) (j : Fin 2048) :
    ∑ s : Fin 8, parts arg2 harg2 arg3 harg3 arg4 harg4 arg5 harg5 arg6 harg6 arg7 harg7 arg8 harg8 arg9 harg9 alloca_r0 alloca_r1 alloca_r2 alloca_r3 x0 x1 x2 x3 x4 x5 x6 x7 n k (ix3 0 s j) = blkSum (blk x0 x1 x2 x3 x4 x5 x6 x7) n k j :=
  accs_sum _ _ _ _ _ trips1 trips2 trips3 trips4 (fun hr => ld_reads arg2 harg2 arg3 harg3 arg4 harg4 arg5 harg5 arg6 harg6 arg7 harg7 arg8 harg8 arg9 harg9 x0 x1 x2 x3 x4 x5 x6 x7 hr) n hn k j

/-- The stores to `dx`, last first. -/
def dxStores : List (View.Piece (Elt Ideal) S1x512x2048 .bf16) :=
  (pcs 384 (ld arg2 harg2 arg3 harg3 arg4 harg4 arg5 harg5 arg6 harg6 arg7 harg7 arg8 harg8 arg9 harg9 x0 x1 x2 x3 x4 x5 x6 x7) alloca_r3 (alloca_r3.view.writes (Elt Ideal) alloca_r3.view.junk zeroAcc) (Scf.trips k0_t4_loop.lb k0_t4_loop.ub k0_t4_loop.st)).1
    ++ ((pcs 256 (ld arg2 harg2 arg3 harg3 arg4 harg4 arg5 harg5 arg6 harg6 arg7 harg7 arg8 harg8 arg9 harg9 x0 x1 x2 x3 x4 x5 x6 x7) alloca_r2 (alloca_r2.view.writes (Elt Ideal) alloca_r2.view.junk zeroAcc) (Scf.trips k0_t3_loop.lb k0_t3_loop.ub k0_t3_loop.st)).1
    ++ ((pcs 128 (ld arg2 harg2 arg3 harg3 arg4 harg4 arg5 harg5 arg6 harg6 arg7 harg7 arg8 harg8 arg9 harg9 x0 x1 x2 x3 x4 x5 x6 x7) alloca_r1 (alloca_r1.view.writes (Elt Ideal) alloca_r1.view.junk zeroAcc) (Scf.trips k0_t2_loop.lb k0_t2_loop.ub k0_t2_loop.st)).1
    ++ ((pcs 0 (ld arg2 harg2 arg3 harg3 arg4 harg4 arg5 harg5 arg6 harg6 arg7 harg7 arg8 harg8 arg9 harg9 x0 x1 x2 x3 x4 x5 x6 x7) alloca_r0 (alloca_r0.view.writes (Elt Ideal) alloca_r0.view.junk zeroAcc) (Scf.trips k0_t1_loop.lb k0_t1_loop.ub k0_t1_loop.st)).1)))

theorem dxStores_apply (y : S1x512x2048.Idx) (h : ∃ p ∈ dxStores arg2 harg2 arg3 harg3 arg4 harg4 arg5 harg5 arg6 harg6 arg7 harg7 arg8 harg8 arg9 harg9 alloca_r0 alloca_r1 alloca_r2 alloca_r3 x0 x1 x2 x3 x4 x5 x6 x7, y ∈ p.1.set) :
    View.canon (dxStores arg2 harg2 arg3 harg3 arg4 harg4 arg5 harg5 arg6 harg6 arg7 harg7 arg8 harg8 arg9 harg9 alloca_r0 alloca_r1 alloca_r2 alloca_r3 x0 x1 x2 x3 x4 x5 x6 x7) y = dxArr (blk x0 x1 x2 x3 x4 x5 x6 x7) y := by
  refine View.canon_apply_of_pieces (Val := Elt Ideal) (dxArr (blk x0 x1 x2 x3 x4 x5 x6 x7)) _ ?_ y h
  have hB : ∀ {r : ℕ} (hr : r + 32 ≤ 512), Reads (ld arg2 harg2 arg3 harg3 arg4 harg4 arg5 harg5 arg6 harg6 arg7 harg7 arg8 harg8 arg9 harg9 x0 x1 x2 x3 x4 x5 x6 x7 hr) (blk x0 x1 x2 x3 x4 x5 x6 x7) r hr := fun hr => ld_reads arg2 harg2 arg3 harg3 arg4 harg4 arg5 harg5 arg6 harg6 arg7 harg7 arg8 harg8 arg9 harg9 x0 x1 x2 x3 x4 x5 x6 x7 hr
  intro p hp
  unfold dxStores at hp
  rcases List.mem_append.mp hp with hp | hp
  · exact (isLoop 384 (by omega) _ alloca_r3 _).dx_pieces hB _ trips4.le p hp
  rcases List.mem_append.mp hp with hp | hp
  · exact (isLoop 256 (by omega) _ alloca_r2 _).dx_pieces hB _ trips3.le p hp
  rcases List.mem_append.mp hp with hp | hp
  · exact (isLoop 128 (by omega) _ alloca_r1 _).dx_pieces hB _ trips2.le p hp
  · exact (isLoop 0 (by omega) _ alloca_r0 _).dx_pieces hB _ trips1.le p hp

/-- `dmod` is cleared at an image's first point. -/
def zeroDmod : List (View.Piece (Elt Ideal) S1x3x2048 .f32) :=
  [⟨Rect.unit ![0, 0, 0] S1x3x2048.size inb_S1x3x2048_S1x3x2048_0_0_0, k0_pay1061 (F := Ideal)⟩]

theorem zeroDmod_apply (k : Fin 3) (j : Fin 2048) : (View.canon zeroDmod (ix3 0 k j) : EReal) = 0 := by
  unfold zeroDmod
  rw [View.canon_unit_zero]
  · show Scalar.ofBits (F := Ideal) .f32 0x00000000#32 = (0 : EReal)
    exact Ideal.ofBits_zero_f32
  · funext a; fin_cases a <;> rfl

/-- The stores to `dmod` of an image's later points: the first token block adds to the `dmod` found, `xo`. -/
def firstRows (xo : Vec Ideal S1x3x2048 .f32) : List (View.Piece (Elt Ideal) S1x3x2048 .f32) :=
  [addRow 2 (parts arg2 harg2 arg3 harg3 arg4 harg4 arg5 harg5 arg6 harg6 arg7 harg7 arg8 harg8 arg9 harg9 alloca_r0 alloca_r1 alloca_r2 alloca_r3 x0 x1 x2 x3 x4 x5 x6 x7 0 2) (View.readAt (Elt Ideal) arg11.view (rowRect 2).toLoadRect (harg11.unread xo)),
    addRow 1 (parts arg2 harg2 arg3 harg3 arg4 harg4 arg5 harg5 arg6 harg6 arg7 harg7 arg8 harg8 arg9 harg9 alloca_r0 alloca_r1 alloca_r2 alloca_r3 x0 x1 x2 x3 x4 x5 x6 x7 0 1) (View.readAt (Elt Ideal) arg11.view (rowRect 1).toLoadRect (harg11.unread xo)),
    addRow 0 (parts arg2 harg2 arg3 harg3 arg4 harg4 arg5 harg5 arg6 harg6 arg7 harg7 arg8 harg8 arg9 harg9 alloca_r0 alloca_r1 alloca_r2 alloca_r3 x0 x1 x2 x3 x4 x5 x6 x7 0 0) (View.readAt (Elt Ideal) arg11.view (rowRect 0).toLoadRect (harg11.unread xo))]

theorem readAt_row (xo : Vec Ideal S1x3x2048 .f32) (k : Fin 3) (j : Fin 2048) :
    View.readAt (Elt Ideal) arg11.view (rowRect k).toLoadRect (harg11.unread xo) (ix3 0 0 j) = xo (ix3 0 k j) := by
  show arg11.view.read (Elt Ideal) (harg11.unread xo) ((rowRect k).emb (ix3 0 0 j)) = _
  rw [rowRect_emb, harg11.read_unread]

theorem firstRows_apply (xo : Vec Ideal S1x3x2048 .f32) (k : Fin 3) (j : Fin 2048) :
    (View.canon (firstRows arg2 harg2 arg3 harg3 arg4 harg4 arg5 harg5 arg6 harg6 arg7 harg7 arg8 harg8 arg9 harg9 arg11 harg11 alloca_r0 alloca_r1 alloca_r2 alloca_r3 x0 x1 x2 x3 x4 x5 x6 x7 xo) (ix3 0 k j) : EReal) = xo (ix3 0 k j) + ∑ s : Fin 8, parts arg2 harg2 arg3 harg3 arg4 harg4 arg5 harg5 arg6 harg6 arg7 harg7 arg8 harg8 arg9 harg9 alloca_r0 alloca_r1 alloca_r2 alloca_r3 x0 x1 x2 x3 x4 x5 x6 x7 0 k (ix3 0 s j) := by
  have h10 : (1 : Fin 3) ≠ 0 := by decide
  have h20 : (2 : Fin 3) ≠ 0 := by decide
  have h21 : (2 : Fin 3) ≠ 1 := by decide
  unfold firstRows
  match k with
  | 0 => rw [addRow_miss 2 0 h20.symm, addRow_miss 1 0 h10.symm, addRow_hit, readAt_row]
  | 1 => rw [addRow_miss 2 1 h21.symm, addRow_hit, readAt_row]
  | 2 => rw [addRow_hit, readAt_row]

/-! ### The body at an image's first point -/

theorem stores8_A (hc0 : cond0_0 i) : (kernelRun0_A (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).1 = dxStores arg2 harg2 arg3 harg3 arg4 harg4 arg5 harg5 arg6 harg6 arg7 harg7 arg8 harg8 arg9 harg9 alloca_r0 alloca_r1 alloca_r2 alloca_r3 x0 x1 x2 x3 x4 x5 x6 x7 := (rfl)

theorem stores9_A (hc0 : cond0_0 i) : (kernelRun0_A (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).2.1 = addRowsFrom arg11.view (parts arg2 harg2 arg3 harg3 arg4 harg4 arg5 harg5 arg6 harg6 arg7 harg7 arg8 harg8 arg9 harg9 alloca_r0 alloca_r1 alloca_r2 alloca_r3 x0 x1 x2 x3 x4 x5 x6 x7) 0 zeroDmod 4 := (rfl)

theorem stores10_A (hc0 : cond0_0 i) : (kernelRun0_A (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7).2.2.1 = blkRows (parts arg2 harg2 arg3 harg3 arg4 harg4 arg5 harg5 arg6 harg6 arg7 harg7 arg8 harg8 arg9 harg9 alloca_r0 alloca_r1 alloca_r2 alloca_r3 x0 x1 x2 x3 x4 x5 x6 x7) := (rfl)

/-- `dx` at an image's first point. -/
theorem out8_A (hc0 : cond0_0 i) (y : S1x512x2048.Idx) : out0_A_8 (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 y = dxArr (blk x0 x1 x2 x3 x4 x5 x6 x7) y := by
  unfold out0_A_8
  rw [View.read_writes_junk_apply_eq_canon]
  have h := cover0_A_8 (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 y
  rw [stores8_A] at h ⊢
  exact dxStores_apply arg2 harg2 arg3 harg3 arg4 harg4 arg5 harg5 arg6 harg6 arg7 harg7 arg8 harg8 arg9 harg9 alloca_r0 alloca_r1 alloca_r2 alloca_r3 x0 x1 x2 x3 x4 x5 x6 x7 y h

/-- The token blocks' sums at an image's first point. -/
theorem out10_A (hc0 : cond0_0 i) (n : Fin 4) (k : Fin 3) (j : Fin 2048) :
    out0_A_10 (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 (ix4 0 n k j) = blkSum (blk x0 x1 x2 x3 x4 x5 x6 x7) n.val k j := by
  unfold out0_A_10
  rw [View.read_writes_junk_apply_eq_canon, stores10_A, blkRows_canon]
  exact parts_sum arg2 harg2 arg3 harg3 arg4 harg4 arg5 harg5 arg6 harg6 arg7 harg7 arg8 harg8 arg9 harg9 alloca_r0 alloca_r1 alloca_r2 alloca_r3 x0 x1 x2 x3 x4 x5 x6 x7 n.val n.isLt k j

/-! ### The body at an image's later points -/

theorem stores8_B (hc0 : ¬cond0_0 i) (xo : Vec Ideal S1x3x2048 .f32) : (kernelRun0_B (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo).1 = dxStores arg2 harg2 arg3 harg3 arg4 harg4 arg5 harg5 arg6 harg6 arg7 harg7 arg8 harg8 arg9 harg9 alloca_r0 alloca_r1 alloca_r2 alloca_r3 x0 x1 x2 x3 x4 x5 x6 x7 := (rfl)

theorem stores9_B (hc0 : ¬cond0_0 i) (xo : Vec Ideal S1x3x2048 .f32) : (kernelRun0_B (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo).2.1 = addRowsFrom arg11.view (parts arg2 harg2 arg3 harg3 arg4 harg4 arg5 harg5 arg6 harg6 arg7 harg7 arg8 harg8 arg9 harg9 alloca_r0 alloca_r1 alloca_r2 alloca_r3 x0 x1 x2 x3 x4 x5 x6 x7) 1 (firstRows arg2 harg2 arg3 harg3 arg4 harg4 arg5 harg5 arg6 harg6 arg7 harg7 arg8 harg8 arg9 harg9 arg11 harg11 alloca_r0 alloca_r1 alloca_r2 alloca_r3 x0 x1 x2 x3 x4 x5 x6 x7 xo) 3 := (rfl)

theorem stores10_B (hc0 : ¬cond0_0 i) (xo : Vec Ideal S1x3x2048 .f32) : (kernelRun0_B (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo).2.2.1 = blkRows (parts arg2 harg2 arg3 harg3 arg4 harg4 arg5 harg5 arg6 harg6 arg7 harg7 arg8 harg8 arg9 harg9 alloca_r0 alloca_r1 alloca_r2 alloca_r3 x0 x1 x2 x3 x4 x5 x6 x7) := (rfl)

/-- `dx` at an image's later points. -/
theorem out8_B (hc0 : ¬cond0_0 i) (xo : Vec Ideal S1x3x2048 .f32) (y : S1x512x2048.Idx) : out0_B_8 (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo y = dxArr (blk x0 x1 x2 x3 x4 x5 x6 x7) y := by
  unfold out0_B_8
  rw [View.read_writes_junk_apply_eq_canon]
  have h := cover0_B_8 (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo y
  rw [stores8_B] at h ⊢
  exact dxStores_apply arg2 harg2 arg3 harg3 arg4 harg4 arg5 harg5 arg6 harg6 arg7 harg7 arg8 harg8 arg9 harg9 alloca_r0 alloca_r1 alloca_r2 alloca_r3 x0 x1 x2 x3 x4 x5 x6 x7 y h

/-- The token blocks' sums at an image's later points. -/
theorem out10_B (hc0 : ¬cond0_0 i) (xo : Vec Ideal S1x3x2048 .f32) (n : Fin 4) (k : Fin 3) (j : Fin 2048) :
    out0_B_10 (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo (ix4 0 n k j) = blkSum (blk x0 x1 x2 x3 x4 x5 x6 x7) n.val k j := by
  unfold out0_B_10
  rw [View.read_writes_junk_apply_eq_canon, stores10_B, blkRows_canon]
  exact parts_sum arg2 harg2 arg3 harg3 arg4 harg4 arg5 harg5 arg6 harg6 arg7 harg7 arg8 harg8 arg9 harg9 alloca_r0 alloca_r1 alloca_r2 alloca_r3 x0 x1 x2 x3 x4 x5 x6 x7 n.val n.isLt k j

/-- `dmod` after an image's first point. -/
theorem out9_A (hc0 : cond0_0 i) (k : Fin 3) (j : Fin 2048) :
    (out0_A_9 (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 (ix3 0 k j) : EReal) = ∑ n ∈ Finset.range 4, blkSum (blk x0 x1 x2 x3 x4 x5 x6 x7) n k j := by
  unfold out0_A_9
  rw [View.read_writes_junk_apply_eq_canon, stores9_A, addRowsFrom_canon, zeroDmod_apply, zero_add]
  refine Finset.sum_congr rfl fun n hn => ?_
  rw [Nat.zero_add]
  exact parts_sum arg2 harg2 arg3 harg3 arg4 harg4 arg5 harg5 arg6 harg6 arg7 harg7 arg8 harg8 arg9 harg9 alloca_r0 alloca_r1 alloca_r2 alloca_r3 x0 x1 x2 x3 x4 x5 x6 x7 n (Finset.mem_range.mp hn) k j

/-- `dmod` after an image's later points. -/
theorem out9_B (hc0 : ¬cond0_0 i) (xo : Vec Ideal S1x3x2048 .f32) (k : Fin 3) (j : Fin 2048) :
    (out0_B_9 (F := Ideal) c i arg2 harg2 arg3 harg3 arg4 harg4 arg5 harg5 arg6 harg6 arg7 harg7 arg8 harg8 arg9 harg9 arg10 harg10 arg11 harg11 arg12 harg12 alloca_r0 halloca_r0 alloca_r1 halloca_r1 alloca_r2 halloca_r2 alloca_r3 halloca_r3 hc0 x0 x1 x2 x3 x4 x5 x6 x7 xo (ix3 0 k j) : EReal) = xo (ix3 0 k j) + ∑ n ∈ Finset.range 4, blkSum (blk x0 x1 x2 x3 x4 x5 x6 x7) n k j := by
  unfold out0_B_9
  rw [View.read_writes_junk_apply_eq_canon, stores9_B, addRowsFrom_canon, firstRows_apply, add_assoc]
  refine congrArg (xo (ix3 0 k j) + ·) ?_
  rw [Finset.sum_range_succ' (fun n => blkSum (blk x0 x1 x2 x3 x4 x5 x6 x7) n k j) 3, add_comm]
  refine congrArg₂ (· + ·) (Finset.sum_congr rfl fun n hn => ?_) (parts_sum arg2 harg2 arg3 harg3 arg4 harg4 arg5 harg5 arg6 harg6 arg7 harg7 arg8 harg8 arg9 harg9 alloca_r0 alloca_r1 alloca_r2 alloca_r3 x0 x1 x2 x3 x4 x5 x6 x7 0 (by omega) k j)
  rw [Nat.add_comm 1 n]
  exact parts_sum arg2 harg2 arg3 harg3 arg4 harg4 arg5 harg5 arg6 harg6 arg7 harg7 arg8 harg8 arg9 harg9 alloca_r0 alloca_r1 alloca_r2 alloca_r3 x0 x1 x2 x3 x4 x5 x6 x7 (n + 1) (by have := Finset.mem_range.mp hn; omega) k j

end Cert.KernelIdeal.Body

end
-- ==== Proof.Blocks.lean ====
/-
  The blocks of the grid's points, as rows of the whole input arrays: point `t` works on image `t / 5` and on its rows
  from `512 · (t mod 5)` on.
-/
module

public import proofs.«01_k».proof.Proof.Gen.KernelIdeal.Frame.Runs
public import proofs.«01_k».proof.Proof.RowSpec
public import Idealize.ShloMosaic.Lib.Pipeline.Value
public import Idealize.ShloMosaic.Lib.Claim

@[expose] public section

noncomputable section

namespace Cert.KernelIdeal.Blocks

open Cert.KernelIdeal Cert.KernelIdeal.Gen Idealize.ShloMosaic Idealize.ShloMosaic.TcCoe Idealize.SL.Sem Cert.Row
open scoped BigOperators

variable (m : (ℓ : Loc nD τ sig) → Buf (Elt Ideal) ℓ) (c : Dev nD)

/-- The input arrays, whole: 8 images of 2560 rows. -/
def arrs : Arr 8 2560 where
  xc := m ((c : Thread nD τ).loc main_arg0)
  xs := m ((c : Thread nD τ).loc main_arg1)
  fo := m ((c : Thread nD τ).loc main_arg2)
  dyc := m ((c : Thread nD τ).loc main_arg3)
  dys := m ((c : Thread nD τ).loc main_arg4)
  dhc := m ((c : Thread nD τ).loc main_arg5)
  dhs := m ((c : Thread nD τ).loc main_arg6)
  ms := fun i => m ((c : Thread nD τ).loc main_arg7) (ix2 (i 0) (i 2))

/-- The image of point `t`. -/
def img (t : Fin cfg0.N) : Fin 8 := ⟨t.val / 5, by have := t.isLt; have h : cfg0.N = 40 := rfl; omega⟩

/-- Row `R` of point `t`'s block, as a row of the image. -/
def row (t : Fin cfg0.N) (R : Fin 512) : Fin 2560 := ⟨512 * (t.val % 5) + R.val, by have := R.isLt; omega⟩

/-! ### The windows' block indices, over the 40 points -/

theorem index0 : ∀ t : Fin cfg0.N, win0_0.index t 0 = t.val / 5 ∧ win0_0.index t 1 = t.val % 5 ∧ win0_0.index t 2 = 0 :=
  (by decide +kernel : ∀ t : Fin grid0.N, win0_0.index t 0 = t.val / 5 ∧ win0_0.index t 1 = t.val % 5 ∧ win0_0.index t 2 = 0)

theorem index1 : ∀ t : Fin cfg0.N, win0_1.index t 0 = t.val / 5 ∧ win0_1.index t 1 = t.val % 5 ∧ win0_1.index t 2 = 0 :=
  (by decide +kernel : ∀ t : Fin grid0.N, win0_1.index t 0 = t.val / 5 ∧ win0_1.index t 1 = t.val % 5 ∧ win0_1.index t 2 = 0)

theorem index2 : ∀ t : Fin cfg0.N, win0_2.index t 0 = t.val / 5 ∧ win0_2.index t 1 = t.val % 5 ∧ win0_2.index t 2 = 0 :=
  (by decide +kernel : ∀ t : Fin grid0.N, win0_2.index t 0 = t.val / 5 ∧ win0_2.index t 1 = t.val % 5 ∧ win0_2.index t 2 = 0)

theorem index3 : ∀ t : Fin cfg0.N, win0_3.index t 0 = t.val / 5 ∧ win0_3.index t 1 = t.val % 5 ∧ win0_3.index t 2 = 0 :=
  (by decide +kernel : ∀ t : Fin grid0.N, win0_3.index t 0 = t.val / 5 ∧ win0_3.index t 1 = t.val % 5 ∧ win0_3.index t 2 = 0)

theorem index4 : ∀ t : Fin cfg0.N, win0_4.index t 0 = t.val / 5 ∧ win0_4.index t 1 = t.val % 5 ∧ win0_4.index t 2 = 0 :=
  (by decide +kernel : ∀ t : Fin grid0.N, win0_4.index t 0 = t.val / 5 ∧ win0_4.index t 1 = t.val % 5 ∧ win0_4.index t 2 = 0)

theorem index5 : ∀ t : Fin cfg0.N, win0_5.index t 0 = t.val / 5 ∧ win0_5.index t 1 = t.val % 5 ∧ win0_5.index t 2 = 0 :=
  (by decide +kernel : ∀ t : Fin grid0.N, win0_5.index t 0 = t.val / 5 ∧ win0_5.index t 1 = t.val % 5 ∧ win0_5.index t 2 = 0)

theorem index6 : ∀ t : Fin cfg0.N, win0_6.index t 0 = t.val / 5 ∧ win0_6.index t 1 = t.val % 5 ∧ win0_6.index t 2 = 0 :=
  (by decide +kernel : ∀ t : Fin grid0.N, win0_6.index t 0 = t.val / 5 ∧ win0_6.index t 1 = t.val % 5 ∧ win0_6.index t 2 = 0)

theorem index7 : ∀ t : Fin cfg0.N, win0_7.index t 0 = t.val / 5 ∧ win0_7.index t 1 = 0 ∧ win0_7.index t 2 = 0 :=
  (by decide +kernel : ∀ t : Fin grid0.N, win0_7.index t 0 = t.val / 5 ∧ win0_7.index t 1 = 0 ∧ win0_7.index t 2 = 0)

theorem index8 : ∀ t : Fin cfg0.N, win0_8.index t 0 = t.val / 5 ∧ win0_8.index t 1 = t.val % 5 ∧ win0_8.index t 2 = 0 :=
  (by decide +kernel : ∀ t : Fin grid0.N, win0_8.index t 0 = t.val / 5 ∧ win0_8.index t 1 = t.val % 5 ∧ win0_8.index t 2 = 0)

theorem index9 : ∀ t : Fin cfg0.N, win0_9.index t 0 = t.val / 5 ∧ win0_9.index t 1 = 0 ∧ win0_9.index t 2 = 0 :=
  (by decide +kernel : ∀ t : Fin grid0.N, win0_9.index t 0 = t.val / 5 ∧ win0_9.index t 1 = 0 ∧ win0_9.index t 2 = 0)

theorem index10 : ∀ t : Fin cfg0.N, win0_10.index t 0 = t.val / 5 ∧ win0_10.index t 1 = t.val % 5 ∧ win0_10.index t 2 = 0 ∧ win0_10.index t 3 = 0 :=
  (by decide +kernel : ∀ t : Fin grid0.N, win0_10.index t 0 = t.val / 5 ∧ win0_10.index t 1 = t.val % 5 ∧ win0_10.index t 2 = 0 ∧ win0_10.index t 3 = 0)

/-! ### The blocks of the input windows -/

/-- The block of the codes of `x`. -/
theorem iblk0 (t : Fin cfg0.N) (R : Fin 512) (j : Fin 2048) :
    (iblk m c 0 t : S1x512x2048.Idx → EReal) (ix3 0 R j) = (arrs m c).xc (ix3 (img t) (row t R) j) := by
  have hi := index0 t
  unfold iblk
  rw [View.read_apply]
  show V m c main_arg0 _ = m ((c : Thread nD τ).loc main_arg0) _
  rw [V_main_arg0]
  congr 1
  funext a; apply Fin.ext
  match a with
  | ⟨0, _⟩ => show win0_0.index t 0 * 1 + 1 * 0 = t.val / 5; omega
  | ⟨1, _⟩ => show win0_0.index t 1 * 512 + 1 * R.val = 512 * (t.val % 5) + R.val; omega
  | ⟨2, _⟩ => show win0_0.index t 2 * 2048 + 1 * j.val = j.val; omega

/-- The block of the scales of `x`. -/
theorem iblk1 (t : Fin cfg0.N) (R : Fin 512) (j : Fin 16) :
    (iblk m c 1 t : S1x512x16.Idx → EReal) (ix3 0 R j) = (arrs m c).xs (ix3 (img t) (row t R) j) := by
  have hi := index1 t
  unfold iblk
  rw [View.read_apply]
  show V m c main_arg1 _ = m ((c : Thread nD τ).loc main_arg1) _
  rw [V_main_arg1]
  congr 1
  funext a; apply Fin.ext
  match a with
  | ⟨0, _⟩ => show win0_1.index t 0 * 1 + 1 * 0 = t.val / 5; omega
  | ⟨1, _⟩ => show win0_1.index t 1 * 512 + 1 * R.val = 512 * (t.val % 5) + R.val; omega
  | ⟨2, _⟩ => show win0_1.index t 2 * 16 + 1 * j.val = j.val; omega

/-- The block of `f_out`. -/
theorem iblk2 (t : Fin cfg0.N) (R : Fin 512) (j : Fin 2048) :
    (iblk m c 2 t : S1x512x2048.Idx → EReal) (ix3 0 R j) = (arrs m c).fo (ix3 (img t) (row t R) j) := by
  have hi := index2 t
  unfold iblk
  rw [View.read_apply]
  show V m c main_arg2 _ = m ((c : Thread nD τ).loc main_arg2) _
  rw [V_main_arg2]
  congr 1
  funext a; apply Fin.ext
  match a with
  | ⟨0, _⟩ => show win0_2.index t 0 * 1 + 1 * 0 = t.val / 5; omega
  | ⟨1, _⟩ => show win0_2.index t 1 * 512 + 1 * R.val = 512 * (t.val % 5) + R.val; omega
  | ⟨2, _⟩ => show win0_2.index t 2 * 2048 + 1 * j.val = j.val; omega

/-- The block of the codes of `dy`. -/
theorem iblk3 (t : Fin cfg0.N) (R : Fin 512) (j : Fin 2048) :
    (iblk m c 3 t : S1x512x2048.Idx → EReal) (ix3 0 R j) = (arrs m c).dyc (ix3 (img t) (row t R) j) := by
  have hi := index3 t
  unfold iblk
  rw [View.read_apply]
  show V m c main_arg3 _ = m ((c : Thread nD τ).loc main_arg3) _
  rw [V_main_arg3]
  congr 1
  funext a; apply Fin.ext
  match a with
  | ⟨0, _⟩ => show win0_3.index t 0 * 1 + 1 * 0 = t.val / 5; omega
  | ⟨1, _⟩ => show win0_3.index t 1 * 512 + 1 * R.val = 512 * (t.val % 5) + R.val; omega
  | ⟨2, _⟩ => show win0_3.index t 2 * 2048 + 1 * j.val = j.val; omega

/-- The block of the scales of `dy`. -/
theorem iblk4 (t : Fin cfg0.N) (R : Fin 512) (j : Fin 16) :
    (iblk m c 4 t : S1x512x16.Idx → EReal) (ix3 0 R j) = (arrs m c).dys (ix3 (img t) (row t R) j) := by
  have hi := index4 t
  unfold iblk
  rw [View.read_apply]
  show V m c main_arg4 _ = m ((c : Thread nD τ).loc main_arg4) _
  rw [V_main_arg4]
  congr 1
  funext a; apply Fin.ext
  match a with
  | ⟨0, _⟩ => show win0_4.index t 0 * 1 + 1 * 0 = t.val / 5; omega
  | ⟨1, _⟩ => show win0_4.index t 1 * 512 + 1 * R.val = 512 * (t.val % 5) + R.val; omega
  | ⟨2, _⟩ => show win0_4.index t 2 * 16 + 1 * j.val = j.val; omega

/-- The block of the codes of `dh`. -/
theorem iblk5 (t : Fin cfg0.N) (R : Fin 512) (j : Fin 2048) :
    (iblk m c 5 t : S1x512x2048.Idx → EReal) (ix3 0 R j) = (arrs m c).dhc (ix3 (img t) (row t R) j) := by
  have hi := index5 t
  unfold iblk
  rw [View.read_apply]
  show V m c main_arg5 _ = m ((c : Thread nD τ).loc main_arg5) _
  rw [V_main_arg5]
  congr 1
  funext a; apply Fin.ext
  match a with
  | ⟨0, _⟩ => show win0_5.index t 0 * 1 + 1 * 0 = t.val / 5; omega
  | ⟨1, _⟩ => show win0_5.index t 1 * 512 + 1 * R.val = 512 * (t.val % 5) + R.val; omega
  | ⟨2, _⟩ => show win0_5.index t 2 * 2048 + 1 * j.val = j.val; omega

/-- The block of the scales of `dh`. -/
theorem iblk6 (t : Fin cfg0.N) (R : Fin 512) (j : Fin 16) :
    (iblk m c 6 t : S1x512x16.Idx → EReal) (ix3 0 R j) = (arrs m c).dhs (ix3 (img t) (row t R) j) := by
  have hi := index6 t
  unfold iblk
  rw [View.read_apply]
  show V m c main_arg6 _ = m ((c : Thread nD τ).loc main_arg6) _
  rw [V_main_arg6]
  congr 1
  funext a; apply Fin.ext
  match a with
  | ⟨0, _⟩ => show win0_6.index t 0 * 1 + 1 * 0 = t.val / 5; omega
  | ⟨1, _⟩ => show win0_6.index t 1 * 512 + 1 * R.val = 512 * (t.val % 5) + R.val; omega
  | ⟨2, _⟩ => show win0_6.index t 2 * 16 + 1 * j.val = j.val; omega

/-- An axis of length one put between the two axes of an array. -/
theorem midAxis (x : Vec Ideal S8x2048 .f32) (i : Fin 8) (j : Fin 2048) :
    shapeCast S8x1x2048 x shapeCasts_S8x2048_S8x1x2048 (ix3 i 0 j) = x (ix2 i j) := by
  pointwise

/-- The modulation scales, one more axis of length one put between image and channel. -/
theorem scaleRows (i : Fin 8) (j : Fin 2048) :
    (V m c main_v0 : S8x1x2048.Idx → EReal) (ix3 i 0 j) = m ((c : Thread nD τ).loc main_arg7) (ix2 i j) := by
  entry_read
  exact midAxis (m ((c : Thread nD τ).loc main_arg7)) i j

/-- The block of the modulation scales: the image's row. -/
theorem iblk7 (t : Fin cfg0.N) (j : Fin 2048) :
    (iblk m c 7 t : S1x1x2048.Idx → EReal) (ix3 0 0 j) = (arrs m c).ms (ix3 (img t) 0 j) := by
  have hi := index7 t
  refine Eq.trans ?_ (scaleRows m c (img t) j)
  unfold iblk
  rw [View.read_apply]
  show V m c main_v0 _ = V m c main_v0 _
  congr 1
  funext a; apply Fin.ext
  match a with
  | ⟨0, _⟩ => show win0_7.index t 0 * 1 + 1 * 0 = t.val / 5; omega
  | ⟨1, _⟩ => show win0_7.index t 1 * 1 + 1 * 0 = 0; omega
  | ⟨2, _⟩ => show win0_7.index t 2 * 2048 + 1 * j.val = j.val; omega

/-- Point `t`'s block of the input arrays. -/
def blkAt (t : Fin cfg0.N) : Arr 1 512 :=
  ⟨iblk m c 0 t, iblk m c 1 t, iblk m c 2 t, iblk m c 3 t, iblk m c 4 t, iblk m c 5 t, iblk m c 6 t, iblk m c 7 t⟩

theorem x_eq (t : Fin cfg0.N) (R : Fin 512) : (blkAt m c t).x 0 R = (arrs m c).x (img t) (row t R) :=
  funext fun j => congrArg₂ (· * ·) (iblk0 m c t R j) (iblk1 m c t R (hi j))

theorem dy_eq (t : Fin cfg0.N) (R : Fin 512) : (blkAt m c t).dy 0 R = (arrs m c).dy (img t) (row t R) :=
  funext fun j => congrArg₂ (· * ·) (iblk3 m c t R j) (iblk4 m c t R (hi j))

theorem dh_eq (t : Fin cfg0.N) (R : Fin 512) : (blkAt m c t).dh 0 R = (arrs m c).dh (img t) (row t R) :=
  funext fun j => congrArg₂ (· * ·) (iblk5 m c t R j) (iblk6 m c t R (hi j))

theorem m_eq (t : Fin cfg0.N) : (blkAt m c t).m 0 = (arrs m c).m (img t) :=
  funext fun j => iblk7 m c t j

/-- `dx` of a row of the block is `dx` of that row of the image. -/
theorem dx_eq (t : Fin cfg0.N) (R : Fin 512) (j : Fin 2048) :
    (blkAt m c t).dx 0 R j = (arrs m c).dx (img t) (row t R) j := by
  unfold Arr.dx
  rw [x_eq, dy_eq, dh_eq, m_eq]

/-- So are the row's three summands. -/
theorem part_eq (t : Fin cfg0.N) (R : Fin 512) (k : Fin 3) (j : Fin 2048) :
    (blkAt m c t).part 0 R k j = (arrs m c).part (img t) (row t R) k j := by
  unfold Arr.part
  rw [x_eq, dy_eq, dh_eq]
  match k with
  | 0 => rfl
  | 1 => rfl
  | 2 => exact congrArg (_ * ·) (iblk2 m c t R j)

theorem partN_eq (t : Fin cfg0.N) (k : Fin 3) (r : ℕ) (hr : r < 512) (j : Fin 2048) :
    (blkAt m c t).partN 0 k r j = (arrs m c).partN (img t) k (512 * (t.val % 5) + r) j := by
  unfold Arr.partN
  rw [dif_pos hr, dif_pos (show 512 * (t.val % 5) + r < 2560 by omega)]
  exact part_eq m c t ⟨r, hr⟩ k j

end Cert.KernelIdeal.Blocks

end
-- ==== Proof.KernResults.lean ====
/-
  The kernel's results, over the whole input arrays: what each grid point leaves in the output blocks, `dmod` summed up
  over an image's points, and the three arrays after the run.
-/
module

public import proofs.«01_k».proof.Proof.Body
public import proofs.«01_k».proof.Proof.Blocks
public import proofs.«01_k».proof.Proof.Kern.Value

@[expose] public section

set_option maxRecDepth 16384
set_option maxHeartbeats 400000

noncomputable section

namespace Cert.KernelIdeal.Results

open Cert.KernelIdeal Cert.KernelIdeal.Gen Idealize.ShloMosaic Idealize.ShloMosaic.TcCoe Idealize.SL.Sem Cert.Row
open Cert.KernelIdeal.Body Cert.KernelIdeal.Blocks
open Idealize.ShloMosaic.Pipeline (Dat)
open scoped BigOperators

variable (m : (ℓ : Loc nD τ sig) → Buf (Elt Ideal) ℓ) (c : Dev nD)

/-- The sums over token block `n` (128 rows) of image `i`. -/
def tok (i : Fin 8) (n : ℕ) (k : Fin 3) (j : Fin 2048) : EReal :=
  ∑ q ∈ Finset.range 128, (arrs m c).partN i k (128 * n + q) j

/-- A grid point's block holds four token blocks of its image. -/
theorem blkSum_eq (t : Fin cfg0.N) (n : ℕ) (hn : n < 4) (k : Fin 3) (j : Fin 2048) :
    blkSum (blkAt m c t) n k j = tok m c (img t) (4 * (t.val % 5) + n) k j := by
  unfold blkSum tok
  refine Finset.sum_congr rfl fun q hq => ?_
  have := Finset.mem_range.mp hq
  rw [partN_eq m c t k (128 * n + q) (by omega) j]
  congr 1
  omega

theorem blkAt_eq (t : Fin cfg0.N) : blkAt m c t = blk (iblk m c 0 t) (iblk m c 1 t) (iblk m c 2 t) (iblk m c 3 t)
    (iblk m c 4 t) (iblk m c 5 t) (iblk m c 6 t) (iblk m c 7 t) := rfl

/-! ### What each grid point leaves -/

theorem at8_A (t : Fin cfg0.N) (h0 : t.val % 5 = 0) (y : S1x512x2048.Idx) :
    (outsAt0 m c t.val t.isLt).1 y = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) y := by
  rw [outsAt0_A m c t h0]

theorem at8_B (t : Fin cfg0.N) (h0 : ¬t.val % 5 = 0) (y : S1x512x2048.Idx) :
    (outsAt0 m c t.val t.isLt).1 y = out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 y := by
  rw [outsAt0_B m c t h0]

theorem at9_A (t : Fin cfg0.N) (h0 : t.val % 5 = 0) (y : S1x3x2048.Idx) :
    (outsAt0 m c t.val t.isLt).2.1 y = out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) y := by
  rw [outsAt0_A m c t h0]

theorem at9_B (t : Fin cfg0.N) (h0 : ¬t.val % 5 = 0) (y : S1x3x2048.Idx) :
    (outsAt0 m c t.val t.isLt).2.1 y = out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 y := by
  rw [outsAt0_B m c t h0]

theorem at10_A (t : Fin cfg0.N) (h0 : t.val % 5 = 0) (y : S1x4x3x2048.Idx) :
    (outsAt0 m c t.val t.isLt).2.2 y = out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) y := by
  rw [outsAt0_A m c t h0]

theorem at10_B (t : Fin cfg0.N) (h0 : ¬t.val % 5 = 0) (y : S1x4x3x2048.Idx) :
    (outsAt0 m c t.val t.isLt).2.2 y = out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.1 y := by
  rw [outsAt0_B m c t h0]

theorem left8 (t : Fin cfg0.N) (R : Fin 512) (j : Fin 2048) :
    (outsAt0 m c t.val t.isLt).1 (ix3 0 R j) = (arrs m c).dx (img t) (row t R) j := by
  refine Eq.trans ?_ (dx_eq m c t R j)
  rw [blkAt_eq]
  by_cases h0 : t.val % 5 = 0
  · exact (at8_A m c t h0 _).trans <| out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) ((hcond0_0 t).mpr h0) (ix3 0 R j)
  · exact (at8_B m c t h0 _).trans <| out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.1 (ix3 0 R j)

theorem left10 (t : Fin cfg0.N) (n : Fin 4) (k : Fin 3) (j : Fin 2048) :
    (outsAt0 m c t.val t.isLt).2.2 (ix4 0 n k j) = tok m c (img t) (4 * (t.val % 5) + n.val) k j := by
  refine Eq.trans ?_ (blkSum_eq m c t n.val n.isLt k j)
  rw [blkAt_eq]
  by_cases h0 : t.val % 5 = 0
  · exact (at10_A m c t h0 _).trans <| out10_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) ((hcond0_0 t).mpr h0) n k j
  · exact (at10_B m c t h0 _).trans <| out10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.1 n k j

/-- At an image's first point `dmod` is the sum of the point's four token blocks. -/
theorem first9 (t : Fin cfg0.N) (h0 : t.val % 5 = 0) (k : Fin 3) (j : Fin 2048) :
    ((outsAt0 m c t.val t.isLt).2.1 (ix3 0 k j) : EReal) = ∑ n ∈ Finset.range 4, blkSum (blkAt m c t) n k j := by
  rw [blkAt_eq]
  exact (at9_A m c t h0 _).trans <| out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) ((hcond0_0 t).mpr h0) k j

/-- At a later point they are added to what the point before left. -/
theorem later9 (t : Fin cfg0.N) (h0 : ¬t.val % 5 = 0) (k : Fin 3) (j : Fin 2048) :
    ((outsAt0 m c t.val t.isLt).2.1 (ix3 0 k j) : EReal)
      = (outsAt0 m c (t.val - 1) (Nat.lt_of_le_of_lt (Nat.sub_le _ _) t.isLt)).2.1 (ix3 0 k j)
        + ∑ n ∈ Finset.range 4, blkSum (blkAt m c t) n k j := by
  rw [blkAt_eq]
  exact (at9_B m c t h0 _).trans <| out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (fun h => h0 ((hcond0_0 t).mp h)) (outsAt0 m c (t.val - 1) (Nat.lt_of_le_of_lt (Nat.sub_le _ _) t.isLt)).2.1 k j

/-- So after a point `dmod` is the sum of its image's token blocks so far. -/
theorem left9 (n : ℕ) : ∀ (h : n < cfg0.N) (k : Fin 3) (j : Fin 2048),
    ((outsAt0 m c n h).2.1 (ix3 0 k j) : EReal) = ∑ b ∈ Finset.range (4 * (n % 5) + 4), tok m c (img ⟨n, h⟩) b k j := by
  induction n with
  | zero =>
    intro h k j
    rw [first9 m c ⟨0, h⟩ rfl k j]
    refine Finset.sum_congr rfl fun b hb => ?_
    rw [blkSum_eq m c ⟨0, h⟩ b (Finset.mem_range.mp hb)]
    congr 1
    show 4 * (0 % 5) + b = b
    omega
  | succ n ih =>
    intro h k j
    by_cases h0 : (n + 1) % 5 = 0
    · rw [first9 m c ⟨n + 1, h⟩ h0 k j, h0]
      refine Finset.sum_congr rfl fun b hb => ?_
      rw [blkSum_eq m c ⟨n + 1, h⟩ b (Finset.mem_range.mp hb)]
      congr 1
      show 4 * ((n + 1) % 5) + b = b
      omega
    · have hprev := ih (Nat.lt_of_succ_lt h) k j
      have himg : img ⟨n, Nat.lt_of_succ_lt h⟩ = img ⟨n + 1, h⟩ := Fin.ext (by show n / 5 = (n + 1) / 5; omega)
      rw [himg] at hprev
      refine (later9 m c ⟨n + 1, h⟩ h0 k j).trans ?_
      show ((outsAt0 m c n _).2.1 (ix3 0 k j) : EReal) + _ = _
      rw [hprev, show 4 * ((n + 1) % 5) + 4 = (4 * (n % 5) + 4) + 4 by omega, Finset.sum_range_add _ (4 * (n % 5) + 4) 4]
      refine congrArg₂ (fun u v : EReal => u + v) rfl (Finset.sum_congr rfl fun b hb => ?_)
      rw [blkSum_eq m c ⟨n + 1, h⟩ b (Finset.mem_range.mp hb)]
      congr 1
      show 4 * ((n + 1) % 5) + b = 4 * (n % 5) + 4 + b
      omega

/-! ### The arrays after the run -/

/-- `dx`, the whole array. -/
def dxAll (y : S8x2560x2048.Idx) : EReal := (arrs m c).dx (y 0) (y 1) (y 2)

/-- The token blocks' sums, the whole array. -/
def blocksAll (y : S8x20x3x2048.Idx) : EReal := tok m c (y 0) (y 1).val (y 2) (y 3)

/-- `dmod`, the whole array. -/
def dmodAll (y : S8x3x2048.Idx) : EReal := ∑ b ∈ Finset.range 20, tok m c (y 0) b (y 1) (y 2)

theorem zero_of_one (a : Fin 1) : a = 0 := Subsingleton.elim _ _

theorem arr8 : (dats m 0 c).arrAt 8 cfg0.N = (dxAll m c : S8x2560x2048.Idx → EReal) := by
  refine Dat.arrAt_eq_of_cover (dats m 0 c) 8 (dxAll m c) (fun t _ => ?_) (fun i => ?_)
  · have key : ∀ y : S1x512x2048.Idx, (outsAt0 m c t.val t.isLt).1 y = dxAll m c (ix3 (img t) (row t (y 1)) (y 2)) := fun y => by
      refine (congrArg _ (eq_ix3 y)).trans ?_
      rw [zero_of_one (y 0)]
      exact left8 m c t (y 1) (y 2)
    rw [Value.flushed8]
    have hi := index8 t
    funext y
    rw [View.read_apply]
    refine (key y).trans ?_
    show dxAll m c _ = dxAll m c _
    congr 1
    have hy : (y 0).val < 1 := (y 0).isLt
    funext b; apply Fin.ext
    match b with
    | ⟨0, _⟩ => show t.val / 5 = win0_8.index t 0 * 1 + 1 * (y 0).val; omega
    | ⟨1, _⟩ => show 512 * (t.val % 5) + (y 1).val = win0_8.index t 1 * 512 + 1 * (y 1).val; omega
    | ⟨2, _⟩ => show (y 2).val = win0_8.index t 2 * 2048 + 1 * (y 2).val; omega
  · have h0 : (i 0).val < 8 := (i 0).isLt
    have h1 : (i 1).val < 2560 := (i 1).isLt
    have h2 : (i 2).val < 2048 := (i 2).isLt
    have hN : cfg0.N = 40 := rfl
    obtain ⟨t, ht⟩ : ∃ t : Fin cfg0.N, t.val = 5 * (i 0).val + (i 1).val / 512 := ⟨⟨5 * (i 0).val + (i 1).val / 512, by omega⟩, rfl⟩
    have hi := index8 t
    refine ⟨t, flush0_8 t, ?_⟩
    show i ∈ ((View.whole main_v1_0).slice (win0_8.rect t)).set
    rw [View.set_slice_whole, Rect.mem_set_unit]
    intro b
    match b with
    | ⟨0, _⟩ => show win0_8.index t 0 * 1 ≤ (i 0).val ∧ (i 0).val < win0_8.index t 0 * 1 + 1; omega
    | ⟨1, _⟩ => show win0_8.index t 1 * 512 ≤ (i 1).val ∧ (i 1).val < win0_8.index t 1 * 512 + 512; omega
    | ⟨2, _⟩ => show win0_8.index t 2 * 2048 ≤ (i 2).val ∧ (i 2).val < win0_8.index t 2 * 2048 + 2048; omega

theorem arr9 : (dats m 0 c).arrAt 9 cfg0.N = (dmodAll m c : S8x3x2048.Idx → EReal) := by
  refine Dat.arrAt_eq_of_cover (dats m 0 c) 9 (dmodAll m c) (fun t hf => ?_) (fun i => ?_)
  · have h4 : t.val % 5 = 4 := (flush0_9 t).mp hf
    have key : ∀ y : S1x3x2048.Idx, (outsAt0 m c t.val t.isLt).2.1 y = dmodAll m c (ix3 (img t) (y 1) (y 2)) := fun y => by
      refine (congrArg _ (eq_ix3 y)).trans ?_
      rw [zero_of_one (y 0)]
      refine (left9 m c t.val t.isLt (y 1) (y 2)).trans ?_
      rw [h4]
      rfl
    rw [Value.flushed9]
    have hi := index9 t
    funext y
    rw [View.read_apply]
    refine (key y).trans ?_
    show dmodAll m c _ = dmodAll m c _
    congr 1
    have hy : (y 0).val < 1 := (y 0).isLt
    funext b; apply Fin.ext
    match b with
    | ⟨0, _⟩ => show t.val / 5 = win0_9.index t 0 * 1 + 1 * (y 0).val; omega
    | ⟨1, _⟩ => show (y 1).val = win0_9.index t 1 * 3 + 1 * (y 1).val; omega
    | ⟨2, _⟩ => show (y 2).val = win0_9.index t 2 * 2048 + 1 * (y 2).val; omega
  · have h0 : (i 0).val < 8 := (i 0).isLt
    have h1 : (i 1).val < 3 := (i 1).isLt
    have h2 : (i 2).val < 2048 := (i 2).isLt
    have hN : cfg0.N = 40 := rfl
    obtain ⟨t, ht⟩ : ∃ t : Fin cfg0.N, t.val = 5 * (i 0).val + 4 := ⟨⟨5 * (i 0).val + 4, by omega⟩, rfl⟩
    have hi := index9 t
    refine ⟨t, (flush0_9 t).mpr (by omega), ?_⟩
    show i ∈ ((View.whole main_v1_1).slice (win0_9.rect t)).set
    rw [View.set_slice_whole, Rect.mem_set_unit]
    intro b
    match b with
    | ⟨0, _⟩ => show win0_9.index t 0 * 1 ≤ (i 0).val ∧ (i 0).val < win0_9.index t 0 * 1 + 1; omega
    | ⟨1, _⟩ => show win0_9.index t 1 * 3 ≤ (i 1).val ∧ (i 1).val < win0_9.index t 1 * 3 + 3; omega
    | ⟨2, _⟩ => show win0_9.index t 2 * 2048 ≤ (i 2).val ∧ (i 2).val < win0_9.index t 2 * 2048 + 2048; omega

theorem arr10 : (dats m 0 c).arrAt 10 cfg0.N = (blocksAll m c : S8x20x3x2048.Idx → EReal) := by
  refine Dat.arrAt_eq_of_cover (dats m 0 c) 10 (blocksAll m c) (fun t _ => ?_) (fun i => ?_)
  · have key : ∀ y : S1x4x3x2048.Idx, (outsAt0 m c t.val t.isLt).2.2 y
        = blocksAll m c (ix4 (img t) ⟨4 * (t.val % 5) + (y 1).val, by have h : (y 1).val < 4 := (y 1).isLt; omega⟩ (y 2) (y 3)) := fun y => by
      refine (congrArg _ (eq_ix4 y)).trans ?_
      rw [zero_of_one (y 0)]
      exact left10 m c t (y 1) (y 2) (y 3)
    rw [Value.flushed10]
    have hi := index10 t
    funext y
    rw [View.read_apply]
    refine (key y).trans ?_
    show blocksAll m c _ = blocksAll m c _
    congr 1
    have hy : (y 0).val < 1 := (y 0).isLt
    funext b; apply Fin.ext
    match b with
    | ⟨0, _⟩ => show t.val / 5 = win0_10.index t 0 * 1 + 1 * (y 0).val; omega
    | ⟨1, _⟩ => show 4 * (t.val % 5) + (y 1).val = win0_10.index t 1 * 4 + 1 * (y 1).val; omega
    | ⟨2, _⟩ => show (y 2).val = win0_10.index t 2 * 3 + 1 * (y 2).val; omega
    | ⟨3, _⟩ => show (y 3).val = win0_10.index t 3 * 2048 + 1 * (y 3).val; omega
  · have h0 : (i 0).val < 8 := (i 0).isLt
    have h1 : (i 1).val < 20 := (i 1).isLt
    have h2 : (i 2).val < 3 := (i 2).isLt
    have h3 : (i 3).val < 2048 := (i 3).isLt
    have hN : cfg0.N = 40 := rfl
    obtain ⟨t, ht⟩ : ∃ t : Fin cfg0.N, t.val = 5 * (i 0).val + (i 1).val / 4 := ⟨⟨5 * (i 0).val + (i 1).val / 4, by omega⟩, rfl⟩
    have hi := index10 t
    refine ⟨t, flush0_10 t, ?_⟩
    show i ∈ ((View.whole main_v1_2).slice (win0_10.rect t)).set
    rw [View.set_slice_whole, Rect.mem_set_unit]
    intro b
    match b with
    | ⟨0, _⟩ => show win0_10.index t 0 * 1 ≤ (i 0).val ∧ (i 0).val < win0_10.index t 0 * 1 + 1; omega
    | ⟨1, _⟩ => show win0_10.index t 1 * 4 ≤ (i 1).val ∧ (i 1).val < win0_10.index t 1 * 4 + 4; omega
    | ⟨2, _⟩ => show win0_10.index t 2 * 3 ≤ (i 2).val ∧ (i 2).val < win0_10.index t 2 * 3 + 3; omega
    | ⟨3, _⟩ => show win0_10.index t 3 * 2048 ≤ (i 3).val ∧ (i 3).val < win0_10.index t 3 * 2048 + 2048; omega

/-- The sums over a token block, by the rows' indices. -/
theorem tok_eq (i : Fin 8) (n : ℕ) (hn : n < 20) (k : Fin 3) (j : Fin 2048) :
    tok m c i n k j = ∑ q : Fin 128, (arrs m c).part i ⟨n * 128 + q.val, by have := q.isLt; omega⟩ k j := by
  unfold tok
  rw [Finset.sum_range]
  refine Finset.sum_congr rfl fun q _ => ?_
  have hq := q.isLt
  unfold Arr.partN
  rw [dif_pos (show 128 * n + q.val < 2560 by omega)]
  congr 1
  exact Fin.ext (by show 128 * n + q.val = n * 128 + q.val; omega)

/-- The kernel's three results. -/
theorem results (ρ : Dev nD → PrngReg) :
    θ_run (defs (F := Ideal)) (onTc (τ := τ) (main (F := Ideal))) ⟨m, fun _ => 0, ρ⟩ fun r => ∀ c : Dev nD,
      r.2.mem ((c.tc : Thread nD τ).loc main_v1_0) = (fun y => (arrs m c).dx (y 0) (y 1) (y 2) : S8x2560x2048.Idx → EReal)
      ∧ r.2.mem ((c.tc : Thread nD τ).loc main_v1_1) = (fun y => ∑ n : Fin 20, ∑ q : Fin 128, (arrs m c).part (y 0) ⟨n.val * 128 + q.val, by have := n.isLt; have := q.isLt; omega⟩ (y 1) (y 2) : S8x3x2048.Idx → EReal)
      ∧ r.2.mem ((c.tc : Thread nD τ).loc main_v1_2) = (fun y => ∑ q : Fin 128, (arrs m c).part (y 0) ⟨(y 1).val * 128 + q.val, by have h : (y 1).val < 20 := (y 1).isLt; have := q.isLt; omega⟩ (y 2) (y 3) : S8x20x3x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run_blocks m ρ)
  obtain ⟨h8, h9, h10, hargs⟩ := h c
  refine ⟨(h8.trans (arr8 m c)).trans rfl, (h9.trans (arr9 m c)).trans ?_, (h10.trans (arr10 m c)).trans ?_, hargs⟩
  · funext y
    show ∑ b ∈ Finset.range 20, tok m c (y 0) b (y 1) (y 2) = _
    rw [Finset.sum_range]
    exact Finset.sum_congr rfl fun n _ => tok_eq m c (y 0) n.val n.isLt (y 1) (y 2)
  · funext y
    exact tok_eq m c (y 0) (y 1).val (y 1).isLt (y 2) (y 3)

end Cert.KernelIdeal.Results

end
-- ==== Proof.RefMath.lean ====
/-
  The reference program's operations, read at an index: they are the row mathematics of `RowSpec.lean` of the input
  arrays, with the sums over blocks of 128 rows.
-/
module

public import proofs.«01_k».proof.Proof.Gen.ReferenceIdeal.Read
public import proofs.«01_k».proof.Proof.RowSpec
public import Idealize.ShloMosaic.Lib.IdealHost

@[expose] public section

set_option maxRecDepth 16384

noncomputable section

namespace Cert.ReferenceIdeal.Math

open Idealize.ShloMosaic Cert.ReferenceIdeal Cert.ReferenceIdeal.Gen Cert.ReferenceIdeal.Read Cert.Row
open scoped BigOperators

/-- An array of decoded values, or of scales. -/
abbrev Vals := FVec Ideal S8x2560x2048 .f32
abbrev Scales := FVec Ideal S8x2560x16 .f32

/-! ### Three operations on an array -/

/-- The means of the rows. -/
def rowMeans (y : Vals) : FVec Ideal S8x2560x1 .f32 :=
  Host.divf (broadcastInDim S8x2560x1 ![0, 1] bcast_S8x2560_S8x2560x1_0_1
      (Host.reduceAdd y (constant S_ .f32 0x00000000#32) reducesTo_S8x2560x2048_S8x2560_d2 h_S_))
    (broadcastInDim S8x2560x1 ![] bcast_S_S8x2560x1 (constant S_ .f32 0x45000000#32))

/-- A column spread over the rows' entries. -/
def spread (y : FVec Ideal S8x2560x1 .f32) : Vals :=
  broadcastInDim S8x2560x2048 ![0, 1, 2] bcast_S8x2560x1_S8x2560x2048_0_1_2 y

/-- The sums over the blocks of 128 rows. -/
def blockSums (y : Vals) : FVec Ideal S8x20x1x2048 .f32 :=
  broadcastInDim S8x20x1x2048 ![0, 1, 3] bcast_S8x20x2048_S8x20x1x2048_0_1_3
    (Host.reduceAdd (shapeCast S8x20x128x2048 y shapeCasts_S8x2560x2048_S8x20x128x2048) (constant S_ .f32 0x00000000#32)
      reducesTo_S8x20x128x2048_S8x20x2048_d2 h_S_)

/-- Division by 2048 is the product with 1/2048. -/
theorem div_2048 (x : EReal) : Ideal.div x (Ideal.ofBits .f32 0x45000000#32) = x * Row.inv := by
  have h1 : Ideal.ofBits .f32 0x45000000#32 = ((2048 : ℝ) : EReal) := by
    simp [Ideal.ofBits, Ideal.ieee, -EReal.coe_mul]; norm_num
  have h2 : Row.inv = ((1 / 2048 : ℝ) : EReal) := by
    unfold Row.inv
    simp [Ideal.ofBits, Ideal.ieee, -EReal.coe_mul]; norm_num
  rw [h1, h2]
  exact Ideal.div_coe (by norm_num) x

theorem rowMeans_apply (y : Vals) (i : Fin 8) (R : Fin 2560) : rowMeans y (ix3 i R 0) = mean (fun j => y (ix3 i R j)) := by
  unfold rowMeans
  pointwise
  rw [div_2048]
  rfl

theorem spread_apply (y : FVec Ideal S8x2560x1 .f32) (i : Fin 8) (R : Fin 2560) (j : Fin 2048) :
    spread y (ix3 i R j) = y (ix3 i R 0) := by
  unfold spread
  pointwise

theorem blockSums_apply (y : Vals) (i : Fin 8) (n : Fin 20) (j : Fin 2048) :
    blockSums y (ix4 i n 0 j) = ∑ q : Fin 128, y (ix3 i ⟨n.val * 128 + q.val, by have := n.isLt; have := q.isLt; omega⟩ j) := by
  unfold blockSums
  pointwise

/-! ### The program's values -/

variable (x1 : Scales) (x2 : FVec Ideal S8x2560x2048 .bf16) (x4 x6 : Scales) (x7 : FVec Ideal S8x2048 .f32) (r0 r1 r2 : Vals)

/-- The reference's input arrays, the codes decoded. -/
def arr : Arr 8 2560 where
  xc := r0
  xs := x1
  fo := x2
  dyc := r1
  dys := x4
  dhc := r2
  dhs := x6
  ms := fun i => x7 (ix2 (i 0) (i 2))

/-- Dequantization. -/
theorem deq_apply (i : Fin 8) (R : Fin 2560) (j : Fin 2048) : val_main_v5 (F := Ideal) x1 r0 (ix3 i R j) = deq r0 x1 i R j := by
  have h : idx_main_v1 (idx_main_v5 (ix3 i R j)) = ix3 i R j := by
    have h0 := i.isLt; have h1 := R.isLt; have h2 := j.isLt
    funext a
    apply Fin.ext
    match a with
    | ⟨0, _⟩ => dsimp [ix3]; omega
    | ⟨1, _⟩ => dsimp [ix3]; omega
    | ⟨2, _⟩ => dsimp [ix3]; omega
  rw [val_main_v5_apply, val_main_v4_apply, val_main_v1_apply, val_main_v3_apply, val_main_v2_apply, h]
  have h' : idx_main_v2 (idx_main_v3 (idx_main_v5 (ix3 i R j))) = ix3 i R (hi j) := by
    have h0 := i.isLt; have h1 := R.isLt; have h2 := j.isLt
    funext a
    apply Fin.ext
    match a with
    | ⟨0, _⟩ => dsimp [ix3, hi]; omega
    | ⟨1, _⟩ => dsimp [ix3, hi]; omega
    | ⟨2, _⟩ => dsimp [ix3, hi]; omega
  rw [h']
  rfl

theorem mean_eq : val_main_v19 (F := Ideal) x1 r0 = rowMeans (val_main_v5 (F := Ideal) x1 r0) := rfl

/-- The normalized rows. -/
theorem center_apply (i : Fin 8) (R : Fin 2560) (j : Fin 2048) :
    val_main_v21 (F := Ideal) x1 r0 (ix3 i R j) = deq r0 x1 i R j - mean (deq r0 x1 i R) := by
  have h : val_main_v21 (F := Ideal) x1 r0
      = subf (val_main_v5 (F := Ideal) x1 r0) (spread (rowMeans (val_main_v5 (F := Ideal) x1 r0))) := rfl
  rw [h]
  show val_main_v5 (F := Ideal) x1 r0 (ix3 i R j) - spread _ (ix3 i R j) = _
  rw [spread_apply, rowMeans_apply]
  simp only [deq_apply]

theorem rstd_apply (i : Fin 8) (R : Fin 2560) :
    val_main_v29 (F := Ideal) x1 r0 (ix3 i R 0) = rstd (deq r0 x1 i R) := by
  show Ideal.rsqrt (rowMeans (val_main_v22 (F := Ideal) x1 r0) (ix3 i R 0) + val_main_v27 (F := Ideal) (ix3 i R 0)) = _
  rw [rowMeans_apply]
  have h : ∀ j, val_main_v22 (F := Ideal) x1 r0 (ix3 i R j)
      = (deq r0 x1 i R j - mean (deq r0 x1 i R)) * (deq r0 x1 i R j - mean (deq r0 x1 i R)) := by
    intro j
    rw [← center_apply]
    rfl
  simp only [h]
  rfl

theorem xhat_apply (i : Fin 8) (R : Fin 2560) (j : Fin 2048) :
    val_main_v31 (F := Ideal) x1 r0 (ix3 i R j) = xhat (deq r0 x1 i R) j := by
  show val_main_v21 (F := Ideal) x1 r0 (ix3 i R j) * spread (val_main_v29 (F := Ideal) x1 r0) (ix3 i R j) = _
  rw [spread_apply, rstd_apply, center_apply]
  rfl

theorem g_apply (i : Fin 8) (R : Fin 2560) (j : Fin 2048) :
    val_main_v49 (F := Ideal) x6 x7 r2 (ix3 i R j) = g (deq r2 x6 i R) (fun j => x7 (ix2 i j)) j := by
  show val_main_v5 (F := Ideal) x6 r2 (ix3 i R j) * val_main_v48 (F := Ideal) x7 (ix3 i R j) = _
  rw [deq_apply]
  unfold val_main_v48 val_main_v47 val_main_v46 val_main_v45 val_main_cst_7 g
  pointwise

/-- The first result. -/
theorem dx_apply (i : Fin 8) (R : Fin 2560) (j : Fin 2048) :
    val_main_v67 (F := Ideal) x1 x4 x6 x7 r0 r1 r2 (ix3 i R j) = (arr x1 x2 x4 x6 x7 r0 r1 r2).dx i R j := by
  show val_main_v5 (F := Ideal) x4 r1 (ix3 i R j) + spread (val_main_v29 (F := Ideal) x1 r0) (ix3 i R j)
    * (val_main_v49 (F := Ideal) x6 x7 r2 (ix3 i R j) - spread (rowMeans (val_main_v49 (F := Ideal) x6 x7 r2)) (ix3 i R j)
      - val_main_v31 (F := Ideal) x1 r0 (ix3 i R j)
        * spread (rowMeans (val_main_v54 (F := Ideal) x1 x6 x7 r0 r2)) (ix3 i R j)) = _
  have h : ∀ j, val_main_v54 (F := Ideal) x1 x6 x7 r0 r2 (ix3 i R j)
      = g (deq r2 x6 i R) (fun j => x7 (ix2 i j)) j * xhat (deq r0 x1 i R) j := by
    intro j
    rw [← g_apply, ← xhat_apply]
    rfl
  simp only [spread_apply, rowMeans_apply, rstd_apply, g_apply, xhat_apply, deq_apply, h]
  rfl

/-- The third result: the sums over a block of 128 rows. -/
theorem blocks_apply (i : Fin 8) (n : Fin 20) (k : Fin 3) (j : Fin 2048) :
    val_main_v44 (F := Ideal) x1 x2 x4 x6 r0 r1 r2 (ix4 i n k j)
      = ∑ q : Fin 128, (arr x1 x2 x4 x6 x7 r0 r1 r2).part i ⟨n.val * 128 + q.val, by have := n.isLt; have := q.isLt; omega⟩ k j := by
  have h : val_main_v44 (F := Ideal) x1 x2 x4 x6 r0 r1 r2 (ix4 i n k j)
      = (match k with
          | 0 => blockSums (val_main_v15 (F := Ideal) x6 r2)
          | 1 => blockSums (val_main_v34 (F := Ideal) x1 x6 r0 r2)
          | 2 => blockSums (val_main_v38 (F := Ideal) x2 x4 r1)) (ix4 i n 0 j) := by
    unfold val_main_v44
    refine concatenate_apply_piece (s₁ := S8x20x1x2048) 2 _ _ (ix4 i n k j) k.val (by exact k.isLt) _ (by fin_cases k <;> rfl) rfl k.val
      (by fin_cases k <;> rfl) (ix4 i n 0 j) ?_ ?_
    · intro b hb
      fin_cases b <;> first | rfl | exact absurd rfl hb
    · rfl
  rw [h]
  fin_cases k
  · show blockSums (val_main_v5 (F := Ideal) x6 r2) (ix4 i n 0 j) = _
    rw [blockSums_apply]
    simp only [deq_apply]
    rfl
  · show blockSums (mulf (val_main_v5 (F := Ideal) x6 r2) (val_main_v31 (F := Ideal) x1 r0)) (ix4 i n 0 j) = _
    rw [blockSums_apply]
    refine Finset.sum_congr rfl fun q _ => ?_
    show val_main_v5 (F := Ideal) x6 r2 _ * val_main_v31 (F := Ideal) x1 r0 _ = _
    rw [deq_apply, xhat_apply]
    rfl
  · show blockSums (mulf (val_main_v5 (F := Ideal) x4 r1) (fun i => x2 i)) (ix4 i n 0 j) = _
    rw [blockSums_apply]
    refine Finset.sum_congr rfl fun q _ => ?_
    show val_main_v5 (F := Ideal) x4 r1 _ * x2 _ = _
    rw [deq_apply]
    rfl

/-- The second result: the sums over all rows of a slab, block by block. -/
theorem dmod_apply (i : Fin 8) (k : Fin 3) (j : Fin 2048) :
    val_main_v68 (F := Ideal) x1 x2 x4 x6 r0 r1 r2 (ix3 i k j)
      = ∑ n : Fin 20, ∑ q : Fin 128,
          (arr x1 x2 x4 x6 x7 r0 r1 r2).part i ⟨n.val * 128 + q.val, by have := n.isLt; have := q.isLt; omega⟩ k j := by
  rw [val_main_v68_apply]
  have h : ∀ n : Fin 20, idx_main_v68 (ix3 i k j) n = ix4 i n k j := fun n => by
    funext a; fin_cases a <;> rfl
  simp only [h, blocks_apply x1 x2 x4 x6 x7 r0 r1 r2]
  rw [show val_main_cst_12 (F := Ideal) (Shape.Idx.first h_S_) = 0 from Ideal.ofBits_zero_f32, zero_add]

end Cert.ReferenceIdeal.Math

end
-- ==== Proof.RefResults.lean ====
/-
  The reference's results. Its first operation only widens the three arrays of codes; over the extended reals this
  changes nothing, so every result is its mathematical term over the input arrays.
-/
module

public import proofs.«01_k».proof.Proof.RefMath
public import proofs.«01_k».proof.Proof.Gen.ReferenceIdeal.Run
public import Idealize.ShloMosaic.Lib.Pipeline.Value

@[expose] public section

set_option maxRecDepth 16384

noncomputable section

namespace Cert.ReferenceIdeal.Results

open Cert.ReferenceIdeal Cert.ReferenceIdeal.Gen Idealize.ShloMosaic Idealize.ShloMosaic.TcCoe Idealize.SL.Sem Cert.Row
open Cert.ReferenceIdeal.Value (exitV reg_main_v0_0 reg_main_v0_1 reg_main_v0_2)
open Idealize.ShloMosaic.Pipeline (Dat)
open scoped BigOperators

variable (m : (ℓ : Loc nD τ sig) → Buf (Elt Ideal) ℓ) (c : Dev nD)

theorem zeros3 : (![0, 0, 0] : Fin 3 → ℕ) = fun _ => 0 := by funext a; fin_cases a <;> rfl

/-- A buffer stored whole, and read whole, holds what was stored. -/
theorem stored {e : EltTy} (v : Vec Ideal S8x2560x2048 e) :
    View.canon (Val := Elt Ideal) [⟨r0_0, v⟩] = v :=
  View.canon_unit_zero zeros3 _ v

/-! ### Array 0 of codes -/

theorem index0 : ∀ t : Fin cfg0.N, win0_0.index t 0 = 0 ∧ win0_0.index t 1 = 0 ∧ win0_0.index t 2 = 0 :=
  (by decide +kernel : ∀ t : Fin grid0.N, win0_0.index t 0 = 0 ∧ win0_0.index t 1 = 0 ∧ win0_0.index t 2 = 0)

theorem index3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)

theorem iblk0 (t : Fin cfg0.N) (y : S8x2560x2048.Idx) :
    (iblk m c 0 t : S8x2560x2048.Idx → EReal) y = m ((c.tc : Thread nD τ).loc main_arg0) y := by
  have hi := index0 t
  unfold iblk
  rw [View.read_apply]
  show m ((c.tc : Thread nD τ).loc main_arg0) _ = _
  congr 1
  funext b; apply Fin.ext
  match b with
  | ⟨0, _⟩ => show win0_0.index t 0 * 8 + 1 * (y 0).val = (y 0).val; omega
  | ⟨1, _⟩ => show win0_0.index t 1 * 2560 + 1 * (y 1).val = (y 1).val; omega
  | ⟨2, _⟩ => show win0_0.index t 2 * 2048 + 1 * (y 2).val = (y 2).val; omega

/-- What the body leaves is its input block. -/
theorem left0 (x0 : Vec Ideal S8x2560x2048 .fp8e4m3) (x1 x2 : Vec Ideal S8x2560x2048 .fp8e5m2) (y : S8x2560x2048.Idx) :
    (out0_3 x0 x1 x2 y : EReal) = x0 y := by
  unfold out0_3
  rw [stored]
  show x0 (r0_0.toLoadRect.idx y) = x0 y
  congr 1
  funext b; apply Fin.ext
  match b with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The widened codes are the codes. -/
theorem codes0 : (reg_main_v0_0 m c : S8x2560x2048.Idx → EReal) = m ((c.tc : Thread nD τ).loc main_arg0) := by
  unfold reg_main_v0_0
  refine Dat.arrAt_eq_of_cover (dats m 0 c) 3 (m ((c.tc : Thread nD τ).loc main_arg0) : S8x2560x2048.Idx → EReal) (fun t _ => ?_) (fun i => ?_)
  · show (cfg0.win 3).cut (grid0.coords t) ((dats m 0 c).after 3 t) = _
    rw [after0_3]
    have hi := index3 t
    funext y
    rw [View.read_apply]
    show out0_3 (F := Ideal) _ _ _ y = m ((c.tc : Thread nD τ).loc main_arg0) _
    rw [left0, iblk0]
    congr 1
    funext b; apply Fin.ext
    match b with
    | ⟨0, _⟩ => show (y 0).val = win0_3.index t 0 * 8 + 1 * (y 0).val; omega
    | ⟨1, _⟩ => show (y 1).val = win0_3.index t 1 * 2560 + 1 * (y 1).val; omega
    | ⟨2, _⟩ => show (y 2).val = win0_3.index t 2 * 2048 + 1 * (y 2).val; omega
  · refine ⟨t0_0, flush0_3 t0_0, ?_⟩
    have hi := index3 t0_0
    have h0 : (i 0).val < 8 := (i 0).isLt
    have h1 : (i 1).val < 2560 := (i 1).isLt
    have h2 : (i 2).val < 2048 := (i 2).isLt
    show i ∈ ((View.whole main_v0_0).slice (win0_3.rect t0_0)).set
    rw [View.set_slice_whole, Rect.mem_set_unit]
    intro b
    match b with
    | ⟨0, _⟩ => show win0_3.index t0_0 0 * 8 ≤ (i 0).val ∧ (i 0).val < win0_3.index t0_0 0 * 8 + 8; omega
    | ⟨1, _⟩ => show win0_3.index t0_0 1 * 2560 ≤ (i 1).val ∧ (i 1).val < win0_3.index t0_0 1 * 2560 + 2560; omega
    | ⟨2, _⟩ => show win0_3.index t0_0 2 * 2048 ≤ (i 2).val ∧ (i 2).val < win0_3.index t0_0 2 * 2048 + 2048; omega

/-! ### Array 1 of codes -/

theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

theorem index4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)

theorem iblk1 (t : Fin cfg0.N) (y : S8x2560x2048.Idx) :
    (iblk m c 1 t : S8x2560x2048.Idx → EReal) y = m ((c.tc : Thread nD τ).loc main_arg3) y := by
  have hi := index1 t
  unfold iblk
  rw [View.read_apply]
  show m ((c.tc : Thread nD τ).loc main_arg3) _ = _
  congr 1
  funext b; apply Fin.ext
  match b with
  | ⟨0, _⟩ => show win0_1.index t 0 * 8 + 1 * (y 0).val = (y 0).val; omega
  | ⟨1, _⟩ => show win0_1.index t 1 * 2560 + 1 * (y 1).val = (y 1).val; omega
  | ⟨2, _⟩ => show win0_1.index t 2 * 2048 + 1 * (y 2).val = (y 2).val; omega

/-- What the body leaves is its input block. -/
theorem left1 (x0 : Vec Ideal S8x2560x2048 .fp8e4m3) (x1 x2 : Vec Ideal S8x2560x2048 .fp8e5m2) (y : S8x2560x2048.Idx) :
    (out0_4 x0 x1 x2 y : EReal) = x1 y := by
  unfold out0_4
  rw [stored]
  show x1 (r0_0.toLoadRect.idx y) = x1 y
  congr 1
  funext b; apply Fin.ext
  match b with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The widened codes are the codes. -/
theorem codes1 : (reg_main_v0_1 m c : S8x2560x2048.Idx → EReal) = m ((c.tc : Thread nD τ).loc main_arg3) := by
  unfold reg_main_v0_1
  refine Dat.arrAt_eq_of_cover (dats m 0 c) 4 (m ((c.tc : Thread nD τ).loc main_arg3) : S8x2560x2048.Idx → EReal) (fun t _ => ?_) (fun i => ?_)
  · show (cfg0.win 4).cut (grid0.coords t) ((dats m 0 c).after 4 t) = _
    rw [after0_4]
    have hi := index4 t
    funext y
    rw [View.read_apply]
    show out0_4 (F := Ideal) _ _ _ y = m ((c.tc : Thread nD τ).loc main_arg3) _
    rw [left1, iblk1]
    congr 1
    funext b; apply Fin.ext
    match b with
    | ⟨0, _⟩ => show (y 0).val = win0_4.index t 0 * 8 + 1 * (y 0).val; omega
    | ⟨1, _⟩ => show (y 1).val = win0_4.index t 1 * 2560 + 1 * (y 1).val; omega
    | ⟨2, _⟩ => show (y 2).val = win0_4.index t 2 * 2048 + 1 * (y 2).val; omega
  · refine ⟨t0_0, flush0_4 t0_0, ?_⟩
    have hi := index4 t0_0
    have h0 : (i 0).val < 8 := (i 0).isLt
    have h1 : (i 1).val < 2560 := (i 1).isLt
    have h2 : (i 2).val < 2048 := (i 2).isLt
    show i ∈ ((View.whole main_v0_1).slice (win0_4.rect t0_0)).set
    rw [View.set_slice_whole, Rect.mem_set_unit]
    intro b
    match b with
    | ⟨0, _⟩ => show win0_4.index t0_0 0 * 8 ≤ (i 0).val ∧ (i 0).val < win0_4.index t0_0 0 * 8 + 8; omega
    | ⟨1, _⟩ => show win0_4.index t0_0 1 * 2560 ≤ (i 1).val ∧ (i 1).val < win0_4.index t0_0 1 * 2560 + 2560; omega
    | ⟨2, _⟩ => show win0_4.index t0_0 2 * 2048 ≤ (i 2).val ∧ (i 2).val < win0_4.index t0_0 2 * 2048 + 2048; omega

/-! ### Array 2 of codes -/

theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)

theorem index5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)

theorem iblk2 (t : Fin cfg0.N) (y : S8x2560x2048.Idx) :
    (iblk m c 2 t : S8x2560x2048.Idx → EReal) y = m ((c.tc : Thread nD τ).loc main_arg5) y := by
  have hi := index2 t
  unfold iblk
  rw [View.read_apply]
  show m ((c.tc : Thread nD τ).loc main_arg5) _ = _
  congr 1
  funext b; apply Fin.ext
  match b with
  | ⟨0, _⟩ => show win0_2.index t 0 * 8 + 1 * (y 0).val = (y 0).val; omega
  | ⟨1, _⟩ => show win0_2.index t 1 * 2560 + 1 * (y 1).val = (y 1).val; omega
  | ⟨2, _⟩ => show win0_2.index t 2 * 2048 + 1 * (y 2).val = (y 2).val; omega

/-- What the body leaves is its input block. -/
theorem left2 (x0 : Vec Ideal S8x2560x2048 .fp8e4m3) (x1 x2 : Vec Ideal S8x2560x2048 .fp8e5m2) (y : S8x2560x2048.Idx) :
    (out0_5 x0 x1 x2 y : EReal) = x2 y := by
  unfold out0_5
  rw [stored]
  show x2 (r0_0.toLoadRect.idx y) = x2 y
  congr 1
  funext b; apply Fin.ext
  match b with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The widened codes are the codes. -/
theorem codes2 : (reg_main_v0_2 m c : S8x2560x2048.Idx → EReal) = m ((c.tc : Thread nD τ).loc main_arg5) := by
  unfold reg_main_v0_2
  refine Dat.arrAt_eq_of_cover (dats m 0 c) 5 (m ((c.tc : Thread nD τ).loc main_arg5) : S8x2560x2048.Idx → EReal) (fun t _ => ?_) (fun i => ?_)
  · show (cfg0.win 5).cut (grid0.coords t) ((dats m 0 c).after 5 t) = _
    rw [after0_5]
    have hi := index5 t
    funext y
    rw [View.read_apply]
    show out0_5 (F := Ideal) _ _ _ y = m ((c.tc : Thread nD τ).loc main_arg5) _
    rw [left2, iblk2]
    congr 1
    funext b; apply Fin.ext
    match b with
    | ⟨0, _⟩ => show (y 0).val = win0_5.index t 0 * 8 + 1 * (y 0).val; omega
    | ⟨1, _⟩ => show (y 1).val = win0_5.index t 1 * 2560 + 1 * (y 1).val; omega
    | ⟨2, _⟩ => show (y 2).val = win0_5.index t 2 * 2048 + 1 * (y 2).val; omega
  · refine ⟨t0_0, flush0_5 t0_0, ?_⟩
    have hi := index5 t0_0
    have h0 : (i 0).val < 8 := (i 0).isLt
    have h1 : (i 1).val < 2560 := (i 1).isLt
    have h2 : (i 2).val < 2048 := (i 2).isLt
    show i ∈ ((View.whole main_v0_2).slice (win0_5.rect t0_0)).set
    rw [View.set_slice_whole, Rect.mem_set_unit]
    intro b
    match b with
    | ⟨0, _⟩ => show win0_5.index t0_0 0 * 8 ≤ (i 0).val ∧ (i 0).val < win0_5.index t0_0 0 * 8 + 8; omega
    | ⟨1, _⟩ => show win0_5.index t0_0 1 * 2560 ≤ (i 1).val ∧ (i 1).val < win0_5.index t0_0 1 * 2560 + 2560; omega
    | ⟨2, _⟩ => show win0_5.index t0_0 2 * 2048 ≤ (i 2).val ∧ (i 2).val < win0_5.index t0_0 2 * 2048 + 2048; omega

/-! ### The results -/

/-- The input arrays, whole: 8 images of 2560 rows. -/
def arrs : Arr 8 2560 where
  xc := m ((c.tc : Thread nD τ).loc main_arg0)
  xs := m ((c.tc : Thread nD τ).loc main_arg1)
  fo := m ((c.tc : Thread nD τ).loc main_arg2)
  dyc := m ((c.tc : Thread nD τ).loc main_arg3)
  dys := m ((c.tc : Thread nD τ).loc main_arg4)
  dhc := m ((c.tc : Thread nD τ).loc main_arg5)
  dhs := m ((c.tc : Thread nD τ).loc main_arg6)
  ms := fun i => m ((c.tc : Thread nD τ).loc main_arg7) (ix2 (i 0) (i 2))

theorem results (ρ : Dev nD → PrngReg) :
    θ_run (defs (F := Ideal)) (onTc (τ := τ) (main (F := Ideal))) ⟨m, fun _ => 0, ρ⟩ fun r => ∀ c : Dev nD,
      r.2.mem ((c.tc : Thread nD τ).loc main_v67) = (fun y => (arrs m c).dx (y 0) (y 1) (y 2) : S8x2560x2048.Idx → EReal)
      ∧ r.2.mem ((c.tc : Thread nD τ).loc main_v68) = (fun y => ∑ n : Fin 20, ∑ q : Fin 128, (arrs m c).part (y 0) ⟨n.val * 128 + q.val, by have := n.isLt; have := q.isLt; omega⟩ (y 1) (y 2) : S8x3x2048.Idx → EReal)
      ∧ r.2.mem ((c.tc : Thread nD τ).loc main_v44) = (fun y => ∑ q : Fin 128, (arrs m c).part (y 0) ⟨(y 1).val * 128 + q.val, by have h : (y 1).val < 20 := (y 1).isLt; have := q.isLt; omega⟩ (y 2) (y 3) : S8x20x3x2048.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run m ρ)
  obtain ⟨h67, h68, h44, hargs⟩ := h c
  refine ⟨h67.trans ?_, h68.trans ?_, h44.trans ?_, hargs⟩
  · refine (Read.val_main_v67_eq (exitV m c)).trans ?_
    rw [Value.exit_main_arg1, Value.exit_main_arg4, Value.exit_main_arg6, Value.exit_main_arg7, Value.exit_main_v0_0,
      Value.exit_main_v0_1, Value.exit_main_v0_2]
    funext y
    refine (congrArg _ (eq_ix3 y)).trans ((Math.dx_apply _ (m ((c.tc : Thread nD τ).loc main_arg2)) _ _ _ _ _ _ _ _ _).trans ?_)
    rw [codes0, codes1, codes2]
    rfl
  · refine (Read.val_main_v68_eq (exitV m c)).trans ?_
    rw [Value.exit_main_arg1, Value.exit_main_arg2, Value.exit_main_arg4, Value.exit_main_arg6, Value.exit_main_v0_0,
      Value.exit_main_v0_1, Value.exit_main_v0_2]
    funext y
    refine (congrArg _ (eq_ix3 y)).trans ((Math.dmod_apply _ _ _ _ (m ((c.tc : Thread nD τ).loc main_arg7)) _ _ _ _ _ _).trans ?_)
    rw [codes0, codes1, codes2]
    rfl
  · refine (Read.val_main_v44_eq (exitV m c)).trans ?_
    rw [Value.exit_main_arg1, Value.exit_main_arg2, Value.exit_main_arg4, Value.exit_main_arg6, Value.exit_main_v0_0,
      Value.exit_main_v0_1, Value.exit_main_v0_2]
    funext y
    refine (congrArg _ (eq_ix4 y)).trans ((Math.blocks_apply _ _ _ _ (m ((c.tc : Thread nD τ).loc main_arg7)) _ _ _ _ _ _ _).trans ?_)
    rw [codes0, codes1, codes2]
    rfl

end Cert.ReferenceIdeal.Results

end
-- ==== Proof.lean ====
/-
  The claims about the kernel and the reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.KernelFrame.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Kern.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.KernResults
public import proofs.«01_k».proof.Proof.RefResults
public import Idealize.ShloMosaic.Adequacy
public import Idealize.ShloMosaic.Init

@[expose] public section

noncomputable section

namespace Cert.Proof

open Idealize.ShloMosaic Idealize.SL.Sem Cert.Kernel

/-- The kernel and the reference compute the same three arrays over the extended reals: both were read as `dx`, the sums
    over an image's token blocks, and the token blocks' sums, of the input arrays, which agree. -/
theorem algebraic [hKernelIdeal : Cert.KernelIdeal.Facts] [hReferenceIdeal : Cert.ReferenceIdeal.Facts] :
    algebraic_KernelIdeal_ReferenceIdeal (hKernelIdeal := hKernelIdeal) (hReferenceIdeal := hReferenceIdeal) := by
  intro m g m' g' _ hargs
  have harrs : ∀ c, Cert.ReferenceIdeal.Results.arrs m' c = Cert.KernelIdeal.Blocks.arrs m c := fun c => by
    obtain ⟨h0, h1, h2, h3, h4, h5, h6, h7⟩ := hargs c
    unfold Cert.ReferenceIdeal.Results.arrs Cert.KernelIdeal.Blocks.arrs
    rw [h0, h1, h2, h3, h4, h5, h6, h7]
  refine ⟨_, _, _, Cert.KernelIdeal.Results.results m g, ?_⟩
  refine (θ_run _ _ _).mono (fun r h c => ?_) (Cert.ReferenceIdeal.Results.results m' g')
  have hc := h c
  rw [harrs c] at hc
  exact hc

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
